-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 1024]⟩ ⟨2, ![2048, 1024]⟩ (Layout.meshBlock [2, 2, 2] ![[2], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v20) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x1024 : Shape := ⟨2, ![1024, 1024]⟩
abbrev S1x1024 : Shape := ⟨2, ![1, 1024]⟩
abbrev S384x1024 : Shape := ⟨2, ![384, 1024]⟩
abbrev S_ : Shape := ⟨0, ![]⟩
abbrev S6 : Shape := ⟨1, ![6]⟩
abbrev S4 : Shape := ⟨1, ![4]⟩
abbrev S1 : Shape := ⟨1, ![1]⟩
abbrev S64x1024 : Shape := ⟨2, ![64, 1024]⟩
abbrev S64 : Shape := ⟨1, ![64]⟩
abbrev S64x1 : Shape := ⟨2, ![64, 1]⟩

abbrev nBuf : Space → Nat
  | .hbm => 4
  | .vmem => 6
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1x1024, .bf16⟩
  | .hbm, ⟨3, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024, .bf16⟩
  | .local _ .vmem, ⟨3, _⟩ => ⟨S1024x1024, .bf16⟩
  | .local _ .vmem, ⟨4, _⟩ => ⟨S1024x1024, .bf16⟩
  | .local _ .vmem, ⟨5, _⟩ => ⟨S384x1024, .bf16⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 2 → Bool
  | ⟨0, _⟩ => true
  | ⟨1, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 2 36 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 1

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.subi c1_i32_9 v2
  let c4_i32_12 : BitVec 32 := 4#32
  let v22 : BitVec 32 := Scalar.muli v19 c4_i32_12
  let v23 : BitVec 32 := Scalar.addi c0_i32 v22
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_13 : BitVec 32 := 2#32
  let v24 : BitVec 32 := Scalar.muli v5 c2_i32_13
  let v25 : BitVec 32 := Scalar.addi v23 v24
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_14 : BitVec 32 := 1#32
  let v26 : BitVec 32 := Scalar.muli v8 c1_i32_14
  let v27 : BitVec 32 := Scalar.addi v25 v26
  v27.toNat
def k0_dev2 (d0 : Dev nD) : Nat :=
  let c0_i32_17 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_16 : BitVec 32 := 4#32
  let v28 : BitVec 32 := Scalar.muli v2 c4_i32_16
  let v29 : BitVec 32 := Scalar.addi c0_i32_17 v28
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_10 v5
  let c2_i32_18 : BitVec 32 := 2#32
  let v30 : BitVec 32 := Scalar.muli v20 c2_i32_18
  let v31 : BitVec 32 := Scalar.addi v29 v30
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_19 : BitVec 32 := 1#32
  let v32 : BitVec 32 := Scalar.muli v8 c1_i32_19
  let v33 : BitVec 32 := Scalar.addi v31 v32
  v33.toNat
def k0_dev3 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v34 : BitVec 32 := Scalar.muli v2 c4_i32_21
  let v35 : BitVec 32 := Scalar.addi c0_i32_22 v34
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v36 : BitVec 32 := Scalar.muli v5 c2_i32_23
  let v37 : BitVec 32 := Scalar.addi v35 v36
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_8 v8
  let c1_i32_24 : BitVec 32 := 1#32
  let v38 : BitVec 32 := Scalar.muli v18 c1_i32_24
  let v39 : BitVec 32 := Scalar.addi v37 v38
  v39.toNat
def k0_off1 (d0 : Dev nD) (c0_i32_25 : BitVec 32) : Fin 2 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32 : BitVec 32 := 256#32
  let v40 : BitVec 32 := Scalar.muli v10 c256_i32
  let v41 : BitVec 32 := Scalar.addi v40 c0_i32_25
  let v42 : Index := Scalar.indexCast v41
  let c0 : Index := 0#32
  ![v42.toNat, 0]
def k0_off2 (d0 : Dev nD) (c0_i32_30 : BitVec 32) : Fin 2 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32_29 : BitVec 32 := 256#32
  let v48 : BitVec 32 := Scalar.muli v10 c256_i32_29
  let v49 : BitVec 32 := Scalar.addi v48 c0_i32_30
  let c0_i32_37 : BitVec 32 := 0#32
  ![v49.toNat, 0]
def k0_dev4 (d0 : Dev nD) : Nat :=
  let c0_i32_34 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_33 : BitVec 32 := 4#32
  let v50 : BitVec 32 := Scalar.muli v2 c4_i32_33
  let v51 : BitVec 32 := Scalar.addi c0_i32_34 v50
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_35 : BitVec 32 := 2#32
  let v52 : BitVec 32 := Scalar.muli v5 c2_i32_35
  let v53 : BitVec 32 := Scalar.addi v51 v52
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_8 v8
  let c1_i32_36 : BitVec 32 := 1#32
  let v54 : BitVec 32 := Scalar.muli v18 c1_i32_36
  let v55 : BitVec 32 := Scalar.addi v53 v54
  v55.toNat
def k0_dev5 (d0 : Dev nD) : Nat :=
  let c0_i32_48 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_47 : BitVec 32 := 4#32
  let v72 : BitVec 32 := Scalar.muli v2 c4_i32_47
  let v73 : BitVec 32 := Scalar.addi c0_i32_48 v72
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_49 : BitVec 32 := 2#32
  let v74 : BitVec 32 := Scalar.muli v5 c2_i32_49
  let v75 : BitVec 32 := Scalar.addi v73 v74
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_8 v8
  let c1_i32_50 : BitVec 32 := 1#32
  let v76 : BitVec 32 := Scalar.muli v18 c1_i32_50
  let v77 : BitVec 32 := Scalar.addi v75 v76
  v77.toNat
def k0_dev6 (d0 : Dev nD) : Nat :=
  let c0_i32_62 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_61 : BitVec 32 := 4#32
  let v94 : BitVec 32 := Scalar.muli v2 c4_i32_61
  let v95 : BitVec 32 := Scalar.addi c0_i32_62 v94
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_63 : BitVec 32 := 2#32
  let v96 : BitVec 32 := Scalar.muli v5 c2_i32_63
  let v97 : BitVec 32 := Scalar.addi v95 v96
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_8 v8
  let c1_i32_64 : BitVec 32 := 1#32
  let v98 : BitVec 32 := Scalar.muli v18 c1_i32_64
  let v99 : BitVec 32 := Scalar.addi v97 v98
  v99.toNat
def k0_dev7 (d0 : Dev nD) : Nat :=
  let c0_i32_76 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_75 : BitVec 32 := 4#32
  let v116 : BitVec 32 := Scalar.muli v2 c4_i32_75
  let v117 : BitVec 32 := Scalar.addi c0_i32_76 v116
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_77 : BitVec 32 := 2#32
  let v118 : BitVec 32 := Scalar.muli v5 c2_i32_77
  let v119 : BitVec 32 := Scalar.addi v117 v118
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_8 v8
  let c1_i32_78 : BitVec 32 := 1#32
  let v120 : BitVec 32 := Scalar.muli v18 c1_i32_78
  let v121 : BitVec 32 := Scalar.addi v119 v120
  v121.toNat
def k0_off3 (d0 : Dev nD) (c128_i32_83 : BitVec 32) : Fin 2 → Nat :=
  let c3_i32 : BitVec 32 := 3#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let v11 : BitVec 32 := Scalar.subi c3_i32 v10
  let c256_i32_82 : BitVec 32 := 256#32
  let v128 : BitVec 32 := Scalar.muli v11 c256_i32_82
  let v129 : BitVec 32 := Scalar.addi v128 c128_i32_83
  let v130 : Index := Scalar.indexCast v129
  let c0_84 : Index := 0#32
  ![v130.toNat, 0]
def k0_off4 (d0 : Dev nD) (c128_i32_87 : BitVec 32) : Fin 2 → Nat :=
  let c3_i32 : BitVec 32 := 3#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let v11 : BitVec 32 := Scalar.subi c3_i32 v10
  let c256_i32_86 : BitVec 32 := 256#32
  let v136 : BitVec 32 := Scalar.muli v11 c256_i32_86
  let v137 : BitVec 32 := Scalar.addi v136 c128_i32_87
  let c0_i32_94 : BitVec 32 := 0#32
  ![v137.toNat, 0]
def k0_dev8 (d0 : Dev nD) : Nat :=
  let c0_i32_91 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_90 : BitVec 32 := 4#32
  let v138 : BitVec 32 := Scalar.muli v2 c4_i32_90
  let v139 : BitVec 32 := Scalar.addi c0_i32_91 v138
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_92 : BitVec 32 := 2#32
  let v140 : BitVec 32 := Scalar.muli v5 c2_i32_92
  let v141 : BitVec 32 := Scalar.addi v139 v140
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_8 v8
  let c1_i32_93 : BitVec 32 := 1#32
  let v142 : BitVec 32 := Scalar.muli v18 c1_i32_93
  let v143 : BitVec 32 := Scalar.addi v141 v142
  v143.toNat
def k0_dev9 (d0 : Dev nD) : Nat :=
  let c0_i32_105 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_104 : BitVec 32 := 4#32
  let v160 : BitVec 32 := Scalar.muli v2 c4_i32_104
  let v161 : BitVec 32 := Scalar.addi c0_i32_105 v160
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_106 : BitVec 32 := 2#32
  let v162 : BitVec 32 := Scalar.muli v5 c2_i32_106
  let v163 : BitVec 32 := Scalar.addi v161 v162
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_8 v8
  let c1_i32_107 : BitVec 32 := 1#32
  let v164 : BitVec 32 := Scalar.muli v18 c1_i32_107
  let v165 : BitVec 32 := Scalar.addi v163 v164
  v165.toNat
def k0_dev10 (d0 : Dev nD) : Nat :=
  let c0_i32_126 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.subi c1_i32_9 v2
  let c4_i32_125 : BitVec 32 := 4#32
  let v184 : BitVec 32 := Scalar.muli v19 c4_i32_125
  let v185 : BitVec 32 := Scalar.addi c0_i32_126 v184
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_127 : BitVec 32 := 2#32
  let v186 : BitVec 32 := Scalar.muli v5 c2_i32_127
  let v187 : BitVec 32 := Scalar.addi v185 v186
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_128 : BitVec 32 := 1#32
  let v188 : BitVec 32 := Scalar.muli v8 c1_i32_128
  let v189 : BitVec 32 := Scalar.addi v187 v188
  v189.toNat
def k0_dev11 (d0 : Dev nD) : Nat :=
  let c0_i32_134 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_133 : BitVec 32 := 4#32
  let v196 : BitVec 32 := Scalar.muli v2 c4_i32_133
  let v197 : BitVec 32 := Scalar.addi c0_i32_134 v196
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_10 v5
  let c2_i32_135 : BitVec 32 := 2#32
  let v198 : BitVec 32 := Scalar.muli v20 c2_i32_135
  let v199 : BitVec 32 := Scalar.addi v197 v198
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_136 : BitVec 32 := 1#32
  let v200 : BitVec 32 := Scalar.muli v8 c1_i32_136
  let v201 : BitVec 32 := Scalar.addi v199 v200
  v201.toNat
def k0_dev12 (d0 : Dev nD) : Nat :=
  let c0_i32_161 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.subi c1_i32_9 v2
  let c4_i32_160 : BitVec 32 := 4#32
  let v251 : BitVec 32 := Scalar.muli v19 c4_i32_160
  let v252 : BitVec 32 := Scalar.addi c0_i32_161 v251
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_162 : BitVec 32 := 2#32
  let v253 : BitVec 32 := Scalar.muli v5 c2_i32_162
  let v254 : BitVec 32 := Scalar.addi v252 v253
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_163 : BitVec 32 := 1#32
  let v255 : BitVec 32 := Scalar.muli v8 c1_i32_163
  let v256 : BitVec 32 := Scalar.addi v254 v255
  v256.toNat
def k0_dev13 (d0 : Dev nD) : Nat :=
  let c0_i32_169 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_168 : BitVec 32 := 4#32
  let v263 : BitVec 32 := Scalar.muli v2 c4_i32_168
  let v264 : BitVec 32 := Scalar.addi c0_i32_169 v263
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_10 v5
  let c2_i32_170 : BitVec 32 := 2#32
  let v265 : BitVec 32 := Scalar.muli v20 c2_i32_170
  let v266 : BitVec 32 := Scalar.addi v264 v265
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_171 : BitVec 32 := 1#32
  let v267 : BitVec 32 := Scalar.muli v8 c1_i32_171
  let v268 : BitVec 32 := Scalar.addi v266 v267
  v268.toNat
def k0_dev14 (d0 : Dev nD) : Nat :=
  let c0_i32_197 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.subi c1_i32_9 v2
  let c4_i32_196 : BitVec 32 := 4#32
  let v318 : BitVec 32 := Scalar.muli v19 c4_i32_196
  let v319 : BitVec 32 := Scalar.addi c0_i32_197 v318
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_198 : BitVec 32 := 2#32
  let v320 : BitVec 32 := Scalar.muli v5 c2_i32_198
  let v321 : BitVec 32 := Scalar.addi v319 v320
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_199 : BitVec 32 := 1#32
  let v322 : BitVec 32 := Scalar.muli v8 c1_i32_199
  let v323 : BitVec 32 := Scalar.addi v321 v322
  v323.toNat
def k0_dev15 (d0 : Dev nD) : Nat :=
  let c0_i32_205 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_204 : BitVec 32 := 4#32
  let v330 : BitVec 32 := Scalar.muli v2 c4_i32_204
  let v331 : BitVec 32 := Scalar.addi c0_i32_205 v330
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_10 v5
  let c2_i32_206 : BitVec 32 := 2#32
  let v332 : BitVec 32 := Scalar.muli v20 c2_i32_206
  let v333 : BitVec 32 := Scalar.addi v331 v332
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_207 : BitVec 32 := 1#32
  let v334 : BitVec 32 := Scalar.muli v8 c1_i32_207
  let v335 : BitVec 32 := Scalar.addi v333 v334
  v335.toNat
def k0_dev16 (d0 : Dev nD) : Nat :=
  let c0_i32_233 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.subi c1_i32_9 v2
  let c4_i32_232 : BitVec 32 := 4#32
  let v385 : BitVec 32 := Scalar.muli v19 c4_i32_232
  let v386 : BitVec 32 := Scalar.addi c0_i32_233 v385
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_234 : BitVec 32 := 2#32
  let v387 : BitVec 32 := Scalar.muli v5 c2_i32_234
  let v388 : BitVec 32 := Scalar.addi v386 v387
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_235 : BitVec 32 := 1#32
  let v389 : BitVec 32 := Scalar.muli v8 c1_i32_235
  let v390 : BitVec 32 := Scalar.addi v388 v389
  v390.toNat
def k0_dev17 (d0 : Dev nD) : Nat :=
  let c0_i32_241 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_240 : BitVec 32 := 4#32
  let v397 : BitVec 32 := Scalar.muli v2 c4_i32_240
  let v398 : BitVec 32 := Scalar.addi c0_i32_241 v397
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_10 v5
  let c2_i32_242 : BitVec 32 := 2#32
  let v399 : BitVec 32 := Scalar.muli v20 c2_i32_242
  let v400 : BitVec 32 := Scalar.addi v398 v399
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_243 : BitVec 32 := 1#32
  let v401 : BitVec 32 := Scalar.muli v8 c1_i32_243
  let v402 : BitVec 32 := Scalar.addi v400 v401
  v402.toNat
def k0_off5 (d0 : Dev nD) : Fin 2 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.muli c2_i32_6 v2
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_7 v5
  let v17 : BitVec 32 := Scalar.addi v15 v16
  let c256_i32_255 : BitVec 32 := 256#32
  let v440 : BitVec 32 := Scalar.muli v17 c256_i32_255
  let c0_i32_262 : BitVec 32 := 0#32
  ![v440.toNat, 0]
def k0_dev18 (d0 : Dev nD) : Nat :=
  let c0_i32_268 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.subi c1_i32_9 v2
  let c4_i32_267 : BitVec 32 := 4#32
  let v452 : BitVec 32 := Scalar.muli v19 c4_i32_267
  let v453 : BitVec 32 := Scalar.addi c0_i32_268 v452
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_269 : BitVec 32 := 2#32
  let v454 : BitVec 32 := Scalar.muli v5 c2_i32_269
  let v455 : BitVec 32 := Scalar.addi v453 v454
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_270 : BitVec 32 := 1#32
  let v456 : BitVec 32 := Scalar.muli v8 c1_i32_270
  let v457 : BitVec 32 := Scalar.addi v455 v456
  v457.toNat
def k0_off6 (d0 : Dev nD) : Fin 2 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.muli c2_i32_6 v2
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_7 v5
  let v17 : BitVec 32 := Scalar.addi v15 v16
  let c256_i32_273 : BitVec 32 := 256#32
  let v464 : BitVec 32 := Scalar.muli v17 c256_i32_273
  let v465 : Index := Scalar.indexCast v464
  let c0_274 : Index := 0#32
  ![v465.toNat, 0]
def k0_off7 (d0 : Dev nD) : Fin 2 → Nat :=
  let c2_i32_5 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_4 v2
  let v13 : BitVec 32 := Scalar.muli c2_i32_5 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c256_i32_283 : BitVec 32 := 256#32
  let v496 : BitVec 32 := Scalar.muli v14 c256_i32_283
  let c0_i32_290 : BitVec 32 := 0#32
  ![v496.toNat, 0]
def k0_off8 (d0 : Dev nD) : Fin 2 → Nat :=
  let c2_i32_5 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_4 v2
  let v13 : BitVec 32 := Scalar.muli c2_i32_5 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c256_i32_292 : BitVec 32 := 256#32
  let v507 : BitVec 32 := Scalar.muli v14 c256_i32_292
  let v508 : Index := Scalar.indexCast v507
  let c0_293 : Index := 0#32
  ![v508.toNat, 0]
def k0_off9 (d0 : Dev nD) (c64_i32_303 : BitVec 32) : Fin 2 → Nat :=
  let c2_i32_5 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_4 v2
  let v13 : BitVec 32 := Scalar.muli c2_i32_5 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c256_i32_302 : BitVec 32 := 256#32
  let v539 : BitVec 32 := Scalar.muli v14 c256_i32_302
  let v540 : BitVec 32 := Scalar.addi v539 c64_i32_303
  let c0_i32_310 : BitVec 32 := 0#32
  ![v540.toNat, 0]
def k0_dev19 (d0 : Dev nD) : Nat :=
  let c0_i32_317 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_316 : BitVec 32 := 4#32
  let v553 : BitVec 32 := Scalar.muli v2 c4_i32_316
  let v554 : BitVec 32 := Scalar.addi c0_i32_317 v553
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_10 v5
  let c2_i32_318 : BitVec 32 := 2#32
  let v555 : BitVec 32 := Scalar.muli v20 c2_i32_318
  let v556 : BitVec 32 := Scalar.addi v554 v555
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_319 : BitVec 32 := 1#32
  let v557 : BitVec 32 := Scalar.muli v8 c1_i32_319
  let v558 : BitVec 32 := Scalar.addi v556 v557
  v558.toNat
def k0_off10 (d0 : Dev nD) (c64_i32_323 : BitVec 32) : Fin 2 → Nat :=
  let c2_i32_5 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_4 v2
  let v13 : BitVec 32 := Scalar.muli c2_i32_5 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c256_i32_322 : BitVec 32 := 256#32
  let v565 : BitVec 32 := Scalar.muli v14 c256_i32_322
  let v566 : BitVec 32 := Scalar.addi v565 c64_i32_323
  let v567 : Index := Scalar.indexCast v566
  let c0_324 : Index := 0#32
  ![v567.toNat, 0]
def k0_off11 (d0 : Dev nD) (c64_i32_334 : BitVec 32) : Fin 2 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.muli c2_i32_6 v2
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_7 v5
  let v17 : BitVec 32 := Scalar.addi v15 v16
  let c256_i32_333 : BitVec 32 := 256#32
  let v598 : BitVec 32 := Scalar.muli v17 c256_i32_333
  let v599 : BitVec 32 := Scalar.addi v598 c64_i32_334
  let c0_i32_341 : BitVec 32 := 0#32
  ![v599.toNat, 0]
def k0_off12 (d0 : Dev nD) (c64_i32_344 : BitVec 32) : Fin 2 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.muli c2_i32_6 v2
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_7 v5
  let v17 : BitVec 32 := Scalar.addi v15 v16
  let c256_i32_343 : BitVec 32 := 256#32
  let v610 : BitVec 32 := Scalar.muli v17 c256_i32_343
  let v611 : BitVec 32 := Scalar.addi v610 c64_i32_344
  let v612 : Index := Scalar.indexCast v611
  let c0_345 : Index := 0#32
  ![v612.toNat, 0]
def k0_off13 (d0 : Dev nD) : Fin 2 → Nat :=
  let c3_i32 : BitVec 32 := 3#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let v11 : BitVec 32 := Scalar.subi c3_i32 v10
  let c256_i32_478 : BitVec 32 := 256#32
  let v909 : BitVec 32 := Scalar.muli v11 c256_i32_478
  let c0_i32_485 : BitVec 32 := 0#32
  ![v909.toNat, 0]
def k0_off14 (d0 : Dev nD) : Fin 2 → Nat :=
  let c3_i32 : BitVec 32 := 3#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let v11 : BitVec 32 := Scalar.subi c3_i32 v10
  let c256_i32_487 : BitVec 32 := 256#32
  let v920 : BitVec 32 := Scalar.muli v11 c256_i32_487
  let v921 : Index := Scalar.indexCast v920
  let c0_488 : Index := 0#32
  ![v921.toNat, 0]
abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2048x1024 : Shape := ⟨2, ![2048, 1024]⟩
abbrev S1024x1024 : Shape := ⟨2, ![1024, 1024]⟩
abbrev S1x1024 : Shape := ⟨2, ![1, 1024]⟩
abbrev S2x1024x1024 : Shape := ⟨3, ![2, 1024, 1024]⟩
abbrev S1024 : Shape := ⟨1, ![1024]⟩
abbrev S_ : Shape := ⟨0, ![]⟩
abbrev S1024x1 : Shape := ⟨2, ![1024, 1]⟩

abbrev nBuf : Space → Nat
  | .hbm => 28
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S1x1024, .bf16⟩
  | .hbm, ⟨3, _⟩ => ⟨S2x1024x1024, .bf16⟩
  | .hbm, ⟨4, _⟩ => ⟨S1024, .bf16⟩
  | .hbm, ⟨5, _⟩ => ⟨S2x1024x1024, .f32⟩
  | .hbm, ⟨6, _⟩ => ⟨S_, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024, .f32⟩
  | .hbm, ⟨13, _⟩ => ⟨S1024x1, .f32⟩
  | .hbm, ⟨14, _⟩ => ⟨S_, .f32⟩
  | .hbm, ⟨15, _⟩ => ⟨S1024x1, .f32⟩
  | .hbm, ⟨16, _⟩ => ⟨S1024x1, .f32⟩
  | .hbm, ⟨17, _⟩ => ⟨S_, .f32⟩
  | .hbm, ⟨18, _⟩ => ⟨S1024x1, .f32⟩
  | .hbm, ⟨19, _⟩ => ⟨S1024x1, .f32⟩
  | .hbm, ⟨20, _⟩ => ⟨S1024x1, .f32⟩
  | .hbm, ⟨21, _⟩ => ⟨S1024x1024, .f32⟩
  | .hbm, ⟨22, _⟩ => ⟨S1024x1024, .f32⟩
  | .hbm, ⟨23, _⟩ => ⟨S1024, .f32⟩
  | .hbm, ⟨24, _⟩ => ⟨S1x1024, .f32⟩
  | .hbm, ⟨25, _⟩ => ⟨S1024x1024, .f32⟩
  | .hbm, ⟨26, _⟩ => ⟨S1024x1024, .f32⟩
  | .hbm, ⟨27, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Proof.Transfers.lean ====
/-
  The sixteen transfers of one device, and the arithmetic of who sends which rows to whom.

  The mesh is 2 × 2 × 2: device 4x + 2y + z. A device works on its 1024 × 1024 block in sixteen CHUNKS of 64 rows; four
  chunks make a QUARTER, and the device's own quarter is q = 2x + y. The partner along z holds the other summand.
  Each device makes sixteen remote copies, numbered here

    0–3    along z: chunks 0–3 of the own quarter;        4, 5    along z: chunks 2, 3 of the opposite quarter
    6–9    along x: chunks 0–3 of the own quarter;        10–13   along y: the same four
    14     along x: chunk 0 of the y neighbour's quarter; 15      along y: chunk 1 of the x neighbour's quarter

  Copy t goes to device `peer t c`, into rows of chunk `dch t c` of its receive buffer, paying semaphore 4 + t there and
  semaphore 20 + t here. What copy t of its sender leaves on device c is chunk `rch t c`; the sixteen are all the chunks.
-/
module

public import proofs.«01_k».proof.Proof.Gen.KernelIdeal
public import proofs.«01_k».proof.Proof.Gen.KernelIdeal.Frame
public import proofs.«01_k».proof.Proof.Gen.KernelIdeal.Launch
public import proofs.«01_k».proof.Proof.Gen.KernelIdeal.Points
public import proofs.«01_k».proof.Proof.Gen.KernelIdeal.Skeleton

@[expose] public section

namespace Cert.Bidir

open Idealize.ShloMosaic
open Cert.KernelIdeal Cert.KernelIdeal.Gen

set_option backward.proofsInPublic true in
/-- The neighbour along z. -/
def flipZ (c : Dev nD) : Dev nD := ⟨c.val ^^^ 1, by revert c; decide⟩
set_option backward.proofsInPublic true in
/-- The neighbour along y. -/
def flipY (c : Dev nD) : Dev nD := ⟨c.val ^^^ 2, by revert c; decide⟩
set_option backward.proofsInPublic true in
/-- The neighbour along x. -/
def flipX (c : Dev nD) : Dev nD := ⟨c.val ^^^ 4, by revert c; decide⟩

/-- The device copy `t` of device `c` goes to. -/
def peer (t : Fin 16) (c : Dev nD) : Dev nD :=
  if t.val < 6 then flipZ c else if t.val < 10 then flipX c else if t.val < 14 then flipY c else if t.val = 14 then flipX c else flipY c

set_option backward.proofsInPublic true in
/-- The chunk of the receiver's buffer that copy `t` of device `c` writes. -/
def dch (t : Fin 16) (c : Dev nD) : Fin 16 :=
  ⟨(if t.val < 4 then 4 * (c.val / 2) + t.val
    else if t.val < 6 then 4 * (3 - c.val / 2) + (t.val - 2)
    else if t.val < 10 then 4 * (c.val / 2) + (t.val - 6)
    else if t.val < 14 then 4 * (c.val / 2) + (t.val - 10)
    else if t.val = 14 then 4 * (c.val / 2 ^^^ 1)
    else 4 * (c.val / 2 ^^^ 2) + 1) % 16, Nat.mod_lt _ (by decide)⟩

/-- The chunk that copy `t` of its sender leaves on device `c`. -/
def rch (t : Fin 16) (c : Dev nD) : Fin 16 := dch t (peer t c)

/-- The device whose own block the rows of chunk `k` on device `c` come from, once all copies have landed: the z neighbour's
    for the chunks the z copies bring, the z neighbour of the x or y neighbour for the rest. -/
def origin (c : Dev nD) (k : Fin 16) : Dev nD :=
  if k = rch 14 c then flipZ (flipY (flipX c)) else if k = rch 15 c then flipZ (flipX (flipY c))
  else if ∃ t : Fin 16, 6 ≤ t.val ∧ t.val < 10 ∧ k = rch t c then flipZ (flipX c)
  else if ∃ t : Fin 16, 10 ≤ t.val ∧ t.val < 14 ∧ k = rch t c then flipZ (flipY c)
  else flipZ c

/-- Sending is mutual. -/
theorem peer_peer (t : Fin 16) (c : Dev nD) : peer t (peer t c) = c := by revert t c; decide
/-- The chunk a copy brings to a peer is the one this device sends with it. -/
theorem dch_peer (t : Fin 16) (c : Dev nD) : rch t (peer t c) = dch t c := by unfold rch; rw [peer_peer]

/-- The devices matched along copy `t`. -/
def peerEquiv (t : Fin 16) : Dev nD ≃ Dev nD := ⟨peer t, peer t, peer_peer t, peer_peer t⟩

/-- No two copies land on the same chunk. -/
theorem rch_inj (c : Dev nD) : Function.Injective fun t : Fin 16 => rch t c := by revert c; decide +kernel
/-- The sixteen landings fill the buffer. -/
theorem rch_bij (c : Dev nD) : Function.Bijective fun t : Fin 16 => rch t c := Finite.injective_iff_bijective.1 (rch_inj c)
/-- Landings and chunks matched. -/
noncomputable def rchEquiv (c : Dev nD) : Fin 16 ≃ Fin 16 := Equiv.ofBijective _ (rch_bij c)
/-- That correspondence, at a copy. -/
theorem rchEquiv_apply (c : Dev nD) (t : Fin 16) : rchEquiv c t = rch t c := rfl

/-- A z copy brings the sender's own rows. -/
theorem origin_z (t : Fin 16) (c : Dev nD) (ht : t.val < 6) : origin (peer t c) (dch t c) = c := by revert t c; decide +kernel
/-- Any other copy passes rows on: they come from where the sender got them. -/
theorem origin_fwd (t : Fin 16) (c : Dev nD) (ht : 6 ≤ t.val) : origin (peer t c) (dch t c) = origin c (dch t c) := by
  revert t c; decide +kernel
/-- Rows always come from a device of the other z. -/
theorem origin_z_parity (c : Dev nD) (k : Fin 16) : (origin c k).val % 2 = 1 - c.val % 2 := by revert c k; decide +kernel

/-- The landing whose rows copy `t` passes on. -/
def srcOf (t : Fin 16) : Fin 16 :=
  if t.val < 6 then t else if t.val < 10 then ⟨(t.val - 6) % 16, Nat.mod_lt _ (by decide)⟩ else if t.val < 14 then ⟨(t.val - 10) % 16, Nat.mod_lt _ (by decide)⟩ else if t.val = 14 then 10 else 7
/-- What a copy sends on is the chunk an earlier copy brought, its source. -/
theorem dch_srcOf (t : Fin 16) (c : Dev nD) : dch t c = rch (srcOf t) c := by revert t c; decide +kernel

/-! ## The program's device numbers and row offsets are these -/

theorem dev1_eq (c : Dev nD) : (⟨k0_dev1 c, k0_dev1_lt c⟩ : Dev nD) = flipX c := by apply Fin.ext; show k0_dev1 c = _; rw [k0_dev1_eq]; revert c; decide
theorem dev2_eq (c : Dev nD) : (⟨k0_dev2 c, k0_dev2_lt c⟩ : Dev nD) = flipY c := by apply Fin.ext; show k0_dev2 c = _; rw [k0_dev2_eq]; revert c; decide
theorem dev3_eq (c : Dev nD) : (⟨k0_dev3 c, k0_dev3_lt c⟩ : Dev nD) = flipZ c := by apply Fin.ext; show k0_dev3 c = _; rw [k0_dev3_eq]; revert c; decide
theorem dev4_eq (c : Dev nD) : (⟨k0_dev4 c, k0_dev4_lt c⟩ : Dev nD) = peer 0 c := by apply Fin.ext; show k0_dev4 c = _; rw [k0_dev4_eq]; revert c; decide
theorem dev5_eq (c : Dev nD) : (⟨k0_dev5 c, k0_dev5_lt c⟩ : Dev nD) = peer 1 c := by apply Fin.ext; show k0_dev5 c = _; rw [k0_dev5_eq]; revert c; decide
theorem dev6_eq (c : Dev nD) : (⟨k0_dev6 c, k0_dev6_lt c⟩ : Dev nD) = peer 2 c := by apply Fin.ext; show k0_dev6 c = _; rw [k0_dev6_eq]; revert c; decide
theorem dev7_eq (c : Dev nD) : (⟨k0_dev7 c, k0_dev7_lt c⟩ : Dev nD) = peer 3 c := by apply Fin.ext; show k0_dev7 c = _; rw [k0_dev7_eq]; revert c; decide
theorem dev8_eq (c : Dev nD) : (⟨k0_dev8 c, k0_dev8_lt c⟩ : Dev nD) = peer 4 c := by apply Fin.ext; show k0_dev8 c = _; rw [k0_dev8_eq]; revert c; decide
theorem dev9_eq (c : Dev nD) : (⟨k0_dev9 c, k0_dev9_lt c⟩ : Dev nD) = peer 5 c := by apply Fin.ext; show k0_dev9 c = _; rw [k0_dev9_eq]; revert c; decide
theorem dev10_eq (c : Dev nD) : (⟨k0_dev10 c, k0_dev10_lt c⟩ : Dev nD) = peer 6 c := by apply Fin.ext; show k0_dev10 c = _; rw [k0_dev10_eq]; revert c; decide
theorem dev11_eq (c : Dev nD) : (⟨k0_dev11 c, k0_dev11_lt c⟩ : Dev nD) = peer 10 c := by apply Fin.ext; show k0_dev11 c = _; rw [k0_dev11_eq]; revert c; decide
theorem dev12_eq (c : Dev nD) : (⟨k0_dev12 c, k0_dev12_lt c⟩ : Dev nD) = peer 7 c := by apply Fin.ext; show k0_dev12 c = _; rw [k0_dev12_eq]; revert c; decide
theorem dev13_eq (c : Dev nD) : (⟨k0_dev13 c, k0_dev13_lt c⟩ : Dev nD) = peer 11 c := by apply Fin.ext; show k0_dev13 c = _; rw [k0_dev13_eq]; revert c; decide
theorem dev14_eq (c : Dev nD) : (⟨k0_dev14 c, k0_dev14_lt c⟩ : Dev nD) = peer 8 c := by apply Fin.ext; show k0_dev14 c = _; rw [k0_dev14_eq]; revert c; decide
theorem dev15_eq (c : Dev nD) : (⟨k0_dev15 c, k0_dev15_lt c⟩ : Dev nD) = peer 12 c := by apply Fin.ext; show k0_dev15 c = _; rw [k0_dev15_eq]; revert c; decide
theorem dev16_eq (c : Dev nD) : (⟨k0_dev16 c, k0_dev16_lt c⟩ : Dev nD) = peer 9 c := by apply Fin.ext; show k0_dev16 c = _; rw [k0_dev16_eq]; revert c; decide
theorem dev17_eq (c : Dev nD) : (⟨k0_dev17 c, k0_dev17_lt c⟩ : Dev nD) = peer 13 c := by apply Fin.ext; show k0_dev17 c = _; rw [k0_dev17_eq]; revert c; decide
theorem dev18_eq (c : Dev nD) : (⟨k0_dev18 c, k0_dev18_lt c⟩ : Dev nD) = peer 14 c := by apply Fin.ext; show k0_dev18 c = _; rw [k0_dev18_eq]; revert c; decide
theorem dev19_eq (c : Dev nD) : (⟨k0_dev19 c, k0_dev19_lt c⟩ : Dev nD) = peer 15 c := by apply Fin.ext; show k0_dev19 c = _; rw [k0_dev19_eq]; revert c; decide

/-- The first row of chunk `k`. -/
def rowOf (k : Fin 16) : Fin 2 → ℕ := ![64 * k.val, 0]

/-- An offset that is 64 times a chunk's number is the row where the chunk begins. -/
theorem rowOf_congr {a : ℕ} {k : Fin 16} (h : a = 64 * k.val) : ![a, 0] = rowOf k := by rw [h]; rfl

/-- The own quarter's chunk `r` is what z landing `r` brings. -/
theorem off1_row (c : Dev nD) (r : Fin 4) (t : Fin 16) (h : t.val = r.val) : k0_off1 c (BitVec.ofNat 32 (64 * r.val)) = rowOf (rch t c) := by
  rw [k0_off1_eq]; apply rowOf_congr; revert c r t; decide +kernel
/-- The offsets of the device's own quarter. -/
theorem off2_row (c : Dev nD) (r : Fin 4) (t : Fin 16) (h : t.val = r.val) : k0_off2 c (BitVec.ofNat 32 (64 * r.val)) = rowOf (rch t c) := by
  rw [k0_off2_eq]; apply rowOf_congr; revert c r t; decide +kernel
/-- The opposite quarter's chunks 1, 2, 3: landings 15, 4, 5. -/
theorem off3_row (c : Dev nD) (r : Fin 3) (t : Fin 16) (h : t = ![15, 4, 5] r) : k0_off3 c (BitVec.ofNat 32 (64 + 64 * r.val)) = rowOf (rch t c) := by
  rw [k0_off3_eq]; apply rowOf_congr; revert c r t; decide +kernel
/-- The offsets of the rows of the diagonal quarter. -/
theorem off4_row (c : Dev nD) (r : Fin 3) (t : Fin 16) (h : t = ![15, 4, 5] r) : k0_off4 c (BitVec.ofNat 32 (64 + 64 * r.val)) = rowOf (rch t c) := by
  rw [k0_off4_eq]; apply rowOf_congr; revert c r t; decide +kernel
/-- The offsets of the first chunk from along y, read and sent on. -/
theorem off5_row (c : Dev nD) : k0_off5 c = rowOf (rch 10 c) := by rw [k0_off5_eq]; apply rowOf_congr; revert c; decide +kernel
theorem off6_row (c : Dev nD) : k0_off6 c = rowOf (rch 10 c) := by rw [k0_off6_eq]; apply rowOf_congr; revert c; decide +kernel
/-- The offsets of the first chunk from along x. -/
theorem off7_row (c : Dev nD) : k0_off7 c = rowOf (rch 6 c) := by rw [k0_off7_eq]; apply rowOf_congr; revert c; decide +kernel
theorem off8_row (c : Dev nD) : k0_off8 c = rowOf (rch 6 c) := by rw [k0_off8_eq]; apply rowOf_congr; revert c; decide +kernel
/-- The offsets of the later chunks from along x. -/
theorem off9_row (c : Dev nD) (r : Fin 3) (t : Fin 16) (h : t.val = 7 + r.val) : k0_off9 c (BitVec.ofNat 32 (64 + 64 * r.val)) = rowOf (rch t c) := by
  rw [k0_off9_eq]; apply rowOf_congr; revert c r t; decide +kernel
theorem off10_row (c : Dev nD) (r : Fin 3) (t : Fin 16) (h : t.val = 7 + r.val) : k0_off10 c (BitVec.ofNat 32 (64 + 64 * r.val)) = rowOf (rch t c) := by
  rw [k0_off10_eq]; apply rowOf_congr; revert c r t; decide +kernel
/-- The offsets of the later chunks from along y. -/
theorem off11_row (c : Dev nD) (r : Fin 3) (t : Fin 16) (h : t.val = 11 + r.val) : k0_off11 c (BitVec.ofNat 32 (64 + 64 * r.val)) = rowOf (rch t c) := by
  rw [k0_off11_eq]; apply rowOf_congr; revert c r t; decide +kernel
theorem off12_row (c : Dev nD) (r : Fin 3) (t : Fin 16) (h : t.val = 11 + r.val) : k0_off12 c (BitVec.ofNat 32 (64 + 64 * r.val)) = rowOf (rch t c) := by
  rw [k0_off12_eq]; apply rowOf_congr; revert c r t; decide +kernel
/-- The offsets of the chunk forwarded along x. -/
theorem off13_row (c : Dev nD) : k0_off13 c = rowOf (rch 14 c) := by rw [k0_off13_eq]; apply rowOf_congr; revert c; decide +kernel
theorem off14_row (c : Dev nD) : k0_off14 c = rowOf (rch 14 c) := by rw [k0_off14_eq]; apply rowOf_congr; revert c; decide +kernel

end Cert.Bidir
-- ==== Proof.Chunks.lean ====
/-
  The rows of one device's buffers, chunk by chunk, and what they hold: `oth`, the receive buffer once every copy has
  landed; `sndB`, the send buffer; `outB`, the result block.
-/
module

public import proofs.«01_k».proof.Proof.Transfers
public import Idealize.ShloMosaic.Lib.Pipeline.Value
public import Idealize.ShloMosaic.Lib.Rounds
public import Idealize.ShloMosaic.Lib.Tactic

@[expose] public section

noncomputable section

namespace Cert.Bidir

open Idealize.ShloMosaic
open Idealize.ShloMosaic.TcCoe
open Cert.KernelIdeal Cert.KernelIdeal.Gen

variable {F : FTy → Type} [FloatOps F]

/-- The contents of a whole block, of the send buffer, of 64 rows, of the scale. -/
abbrev Blk (F : FTy → Type) : Type := (⟨S1024x1024, .bf16⟩ : BufTy).Contents (Elt F)
abbrev Snd (F : FTy → Type) : Type := (⟨S384x1024, .bf16⟩ : BufTy).Contents (Elt F)
abbrev Chk (F : FTy → Type) : Type := Vec F S64x1024 .bf16
abbrev Gam (F : FTy → Type) : Type := Vec F S1x1024 .bf16

/-! ## Chunks of a block -/

/-- A chunk lies inside the block. -/
theorem inbK (k : Fin 16) : ∀ a, rowOf k a + S64x1024.size a ≤ S1024x1024.size a := by revert k; decide

/-- Chunk `k` of a block: rows 64k … 64k + 63. -/
abbrev chunkR (k : Fin 16) : Rect S1024x1024 := Rect.unit (s := S1024x1024) (rowOf k) S64x1024.size (inbK k)

/-- A block has 1024 rows. -/
theorem row_lt (i : S1024x1024.Idx) : (i 0).val < 1024 := (i 0).isLt

/-- The chunk a row belongs to. -/
def chunkOf (i : S1024x1024.Idx) : Fin 16 := ⟨(i 0).val / 64, by have := row_lt i; omega⟩

/-- An element's place within its chunk. -/
def posOf (i : S1024x1024.Idx) : S64x1024.Idx :=
  Fin.cons ⟨(i 0).val % 64, Nat.mod_lt _ (by decide)⟩ (fun a : Fin 1 => i a.succ)

/-- An element lies in chunk `k` exactly when `k` is its chunk. -/
theorem mem_chunkR (k : Fin 16) (i : S1024x1024.Idx) : i ∈ (chunkR k).set ↔ chunkOf i = k := by
  refine Iff.trans Rect.mem_set_unit ?_
  constructor
  · intro h
    have h0 := h 0
    have e0 : rowOf k 0 = 64 * k.val := rfl
    have e1 : S64x1024.size 0 = 64 := rfl
    rw [e0, e1] at h0
    apply Fin.ext
    show (i 0).val / 64 = k.val
    omega
  · intro h a
    have h' : (i 0).val / 64 = k.val := congrArg Fin.val h
    match a with
    | ⟨0, _⟩ =>
      show 64 * k.val ≤ (i 0).val ∧ (i 0).val < 64 * k.val + 64
      omega
    | ⟨1, _⟩ =>
      show 0 ≤ (i 1).val ∧ (i 1).val < 0 + 1024
      have : (i 1).val < 1024 := (i 1).isLt
      omega

/-- Two chunks share no element. -/
theorem chunkR_disjoint {k k' : Fin 16} (h : k ≠ k') : Disjoint (chunkR k).set (chunkR k').set :=
  Finset.disjoint_left.2 fun i hi hi' => h (((mem_chunkR k i).1 hi).symm.trans ((mem_chunkR k' i).1 hi'))

/-- The sixteen chunks, in the order of the landings on device `c`, are the block. -/
theorem chunkR_cover (c : Dev nD) : (Finset.univ : Finset (Fin 16)).biUnion (fun t => (chunkR (rch t c)).set) = Finset.univ := by
  ext i
  simp only [Finset.mem_biUnion, Finset.mem_univ, true_and, iff_true]
  obtain ⟨t, ht⟩ := (rch_bij c).2 (chunkOf i)
  exact ⟨t, (mem_chunkR _ i).2 ht.symm⟩

/-- The element of the block at place `x` of chunk `k`. -/
theorem emb_chunkOf (k : Fin 16) (x : S64x1024.Idx) : chunkOf ((chunkR k).emb x) = k :=
  (mem_chunkR k _).1 (by rw [← Rect.map_emb_univ]; exact Finset.mem_map_of_mem _ (Finset.mem_univ x))

/-- The place of that element within its chunk is `x`. -/
theorem emb_posOf (k : Fin 16) (x : S64x1024.Idx) : posOf ((chunkR k).emb x) = x := by
  funext a
  apply Fin.ext
  match a with
  | ⟨0, _⟩ =>
    show (64 * k.val + 1 * (x 0).val) % 64 = (x 0).val
    have : (x 0).val < 64 := (x 0).isLt
    omega
  | ⟨1, _⟩ =>
    show 0 + 1 * (x 1).val = (x 1).val
    omega

/-- An element is the one at its own place of its own chunk. -/
theorem emb_chunk_pos (i : S1024x1024.Idx) : (chunkR (chunkOf i)).emb (posOf i) = i := by
  funext a
  apply Fin.ext
  match a with
  | ⟨0, _⟩ =>
    show 64 * ((i 0).val / 64) + 1 * ((i 0).val % 64) = (i 0).val
    omega
  | ⟨1, _⟩ =>
    show 0 + 1 * (i 1).val = (i 1).val
    omega

/-- The rows of chunk `k`. -/
def rd (f : Blk F) (k : Fin 16) : Chk F := fun x => f ((chunkR k).emb x)

/-- Every element of a chunk is at some place of it. -/
theorem exists_emb {k : Fin 16} {i : S1024x1024.Idx} (h : i ∈ (chunkR k).set) : ∃ x, (chunkR k).emb x = i :=
  ⟨posOf i, by rw [← (mem_chunkR k i).1 h]; exact emb_chunk_pos i⟩

/-! ## Chunks of the send buffer -/

/-- A chunk of the send buffer lies inside it. -/
theorem inbS (j : Fin 6) : ∀ a, (![64 * j.val, 0] : Fin 2 → ℕ) a + S64x1024.size a ≤ S384x1024.size a := by revert j; decide

/-- Chunk `j` of the send buffer. -/
abbrev sndR (j : Fin 6) : Rect S384x1024 := Rect.unit (s := S384x1024) ![64 * j.val, 0] S64x1024.size (inbS j)

/-- An element lies in chunk `j` of the send buffer exactly when its row does. -/
theorem mem_sndR (j : Fin 6) (i : S384x1024.Idx) : i ∈ (sndR j).set ↔ (i 0).val / 64 = j.val := by
  refine Iff.trans Rect.mem_set_unit ?_
  constructor
  · intro h
    have h0 : 64 * j.val ≤ (i 0).val ∧ (i 0).val < 64 * j.val + 64 := h 0
    omega
  · intro h a
    match a with
    | ⟨0, _⟩ =>
      show 64 * j.val ≤ (i 0).val ∧ (i 0).val < 64 * j.val + 64
      omega
    | ⟨1, _⟩ =>
      show 0 ≤ (i 1).val ∧ (i 1).val < 0 + 1024
      have : (i 1).val < 1024 := (i 1).isLt
      omega

/-- Two chunks of the send buffer share no element. -/
theorem sndR_disjoint {j j' : Fin 6} (h : j ≠ j') : Disjoint (sndR j).set (sndR j').set :=
  Finset.disjoint_left.2 fun i hi hi' => h (Fin.ext (((mem_sndR j i).1 hi).symm.trans ((mem_sndR j' i).1 hi')))

/-- The six chunks are the send buffer. -/
theorem sndR_cover : (Finset.univ : Finset (Fin 6)).biUnion (fun j => (sndR j).set) = Finset.univ := by
  ext i
  simp only [Finset.mem_biUnion, Finset.mem_univ, true_and, iff_true]
  have : (i 0).val < 384 := (i 0).isLt
  exact ⟨⟨(i 0).val / 64, by omega⟩, (mem_sndR _ i).2 rfl⟩

/-! ## Contents -/

section Contents

variable (A R : Dev nD → Blk F) (G : Dev nD → Gam F)

/-- The receive buffer of device `c` once every copy has landed: each row is the row of the block of the device it comes from. -/
def oth (c : Dev nD) : Blk F := fun i => A (origin c (chunkOf i)) i

/-- Chunk `k` of the receive buffer is chunk `k` of the block it came from. -/
theorem rd_oth (c : Dev nD) (k : Fin 16) : rd (oth A c) k = rd (A (origin c k)) k := by
  funext x
  show A (origin c (chunkOf ((chunkR k).emb x))) ((chunkR k).emb x) = A (origin c k) ((chunkR k).emb x)
  rw [emb_chunkOf]

/-- Landing: what a z copy brings is what the receive buffer is to hold there. -/
theorem rd_oth_z (t : Fin 16) (c : Dev nD) (ht : t.val < 6) : rd (oth A (peer t c)) (dch t c) = rd (A c) (dch t c) := by
  rw [rd_oth, origin_z t c ht]
/-- And what any other copy brings. -/
theorem rd_oth_fwd (t : Fin 16) (c : Dev nD) (ht : 6 ≤ t.val) : rd (oth A (peer t c)) (dch t c) = rd (oth A c) (dch t c) := by
  rw [rd_oth, rd_oth, origin_fwd t c ht]

/-- What the body computes from 64 rows: of the device's block, of the receive buffer, of the residual; and the scale. -/
def cmp (p o r : Chk F) (g : Gam F) : Chk F := k0_pay10 p o r g

/-- The result block. -/
def outB (c : Dev nD) : Blk F := fun i => cmp (rd (A c) (chunkOf i)) (rd (oth A c) (chunkOf i)) (rd (R c) (chunkOf i)) (G c) (posOf i)

/-- Chunk `k` of the result is what the body computes from the three chunks `k`. -/
theorem rd_outB (c : Dev nD) (k : Fin 16) : rd (outB A R G c) k = cmp (rd (A c) k) (rd (oth A c) k) (rd (R c) k) (G c) := by
  funext x
  show cmp (rd (A c) (chunkOf ((chunkR k).emb x))) (rd (oth A c) (chunkOf ((chunkR k).emb x))) (rd (R c) (chunkOf ((chunkR k).emb x))) (G c) (posOf ((chunkR k).emb x)) = _
  rw [emb_chunkOf, emb_posOf]

end Contents

/-- A cast to its own shape changes nothing. -/
theorem pay1_eq (p : Chk F) : k0_pay1 p = p := by
  unfold k0_pay1
  dsimp only
  rw [shapeCast_self, shapeCast_self]

end Cert.Bidir
-- ==== Proof.Schedule.lean ====
/-
  The protocol of one launch, semaphore by semaphore. Every semaphore has one round.

    barrier (runtime's)   2 units, one from the x and one from the y neighbour, each handing over the chunks of ITS receive
                          buffer that the waiting device's x (or y) copies write
    semaphore of the z handshake   1 unit from the z neighbour, handing over the six chunks the z copies write
    receive t             the chunk copy t of the neighbour wrote, holding what `oth` says
    send t                the rows copy t read: the send buffer's, or the receive buffer's at the share lent

  A device first pays the three handshakes, then its sixteen copies in the order of `order`; it waits on the
  handshakes (level 1), on the z landings (2), the x and y landings (3), the two passed-on landings (4), always owing
  only at higher levels; the waits for its own sends come when it owes nothing.
-/
module

public import proofs.«01_k».proof.Proof.Chunks

@[expose] public section

noncomputable section

namespace Cert.Bidir

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-- Ghost state: the pipeline's rounds and the protocol's, whose duties are told apart by a bit (the barrier has two). -/
abbrev UU : Type := UR sig nD τ × URounds (GSem nD τ sig) Bool

local notation "𝕄" => MT nD τ sig Unit (Elt F) ℕ UU ℕ

abbrev EP : Emb (UR sig nD τ) (MT nD τ sig Unit (Elt F) ℕ UU ℕ) := embL
abbrev ER : Emb (URounds (GSem nD τ sig) Bool) (MT nD τ sig Unit (Elt F) ℕ UU ℕ) := embR

/-! ## Lists of assertions -/

/-- The assertions `Φ` of a list's members, conjoined. -/
def each {I : Type} : List I → (I → sProp 𝕄) → sProp 𝕄
  | [], _ => iprop(emp)
  | a :: l, Φ => iprop(Φ a ∗ each l Φ)

/-- A conjunction over a list, as the library writes it. -/
theorem each_eq {I : Type} (l : List I) (Φ : I → sProp 𝕄) : each l Φ = bigSepL l Φ := by
  induction l with
  | nil => rfl
  | cons a l ih => rw [bigSepL_cons, ← ih]; rfl

/-- All of a finite type, in a chosen order. -/
theorem each_univ {I : Type} [Fintype I] [DecidableEq I] (l : List I) (h : Finset.univ = l.toFinset) (hl : l.Nodup) (Φ : I → sProp 𝕄) :
    bigSep Finset.univ Φ = each l Φ := (bigSep_univ_eq_bigSepL l h hl Φ).trans (each_eq l Φ).symm

/-! ## Semaphores and cells -/

/-- The semaphore copy `t` pays on its receiver, and the one it pays on its sender. -/
def rSem (t : Fin 16) : DmaSem sig := ⟨4 + t.val, by have := t.isLt; show 4 + t.val < 36; omega⟩
def sSem (t : Fin 16) : DmaSem sig := ⟨20 + t.val, by have := t.isLt; show 20 + t.val < 36; omega⟩
/-- The semaphore of the z handshake. -/
abbrev zSem : Sem sig := ⟨0, by decide⟩

abbrev barCell (c : Dev nD) : GSem nD τ sig := ((c : Thread nD τ), .reg barrier0)
abbrev zCell (c : Dev nD) : GSem nD τ sig := ((c : Thread nD τ), .reg zSem)
abbrev recvCell (t : Fin 16) (c : Dev nD) : GSem nD τ sig := ((c : Thread nD τ), .dma (rSem t))
abbrev sendCell (t : Fin 16) (c : Dev nD) : GSem nD τ sig := ((c : Thread nD τ), .dma (sSem t))

/-- The kernel's own (scoped) semaphores: the z handshake's, the receives', the sends'. -/
abbrev Own : Type := Unit ⊕ (Fin 16 ⊕ Fin 16)
abbrev osem : Own → SemLoc sig
  | .inl _ => .reg zSem
  | .inr (.inl t) => .dma (rSem t)
  | .inr (.inr t) => .dma (sSem t)
/-- All the protocol's semaphores of a device: the barrier and its own. -/
abbrev Cel : Type := Unit ⊕ Own
abbrev csem : Cel → SemLoc sig
  | .inl _ => .reg barrier0
  | .inr k => osem k
/-- The cell of a semaphore of the protocol on a device. -/
abbrev celAt (p : Dev nD × Cel) : GSem nD τ sig := ((p.1 : Thread nD τ), csem p.2)

/-- Different names are different semaphores, and different cells. -/
theorem osem_inj : Function.Injective osem := by decide +kernel
theorem csem_inj : Function.Injective csem := by decide +kernel
theorem celAt_inj : Function.Injective celAt := fun p q h => by
  have h1 : p.1 = q.1 := congrArg (fun g : GSem nD τ sig => g.1.1) h
  have h2 : csem p.2 = csem q.2 := congrArg (fun g : GSem nD τ sig => g.2) h
  exact Prod.ext h1 (csem_inj h2)
/-- Every cell the protocol uses, on every device. -/
def allCells : Finset (GSem nD τ sig) := Finset.univ.map ⟨celAt, celAt_inj⟩
/-- A cell of the protocol is among them. -/
theorem celAt_mem (p : Dev nD × Cel) : celAt p ∈ allCells := Finset.mem_map_of_mem ⟨celAt, celAt_inj⟩ (Finset.mem_univ p)

/-! ## Points-tos -/

/-- The receive buffer, the send buffer, the staged windows. -/
abbrev oM : Memref sig .tc .vmem S1024x1024 .bf16 := Memref.whole cc0_scratch0
/-- The send buffer and the four staging buffers, whole. -/
abbrev sM : Memref sig .tc .vmem S384x1024 .bf16 := Memref.whole cc0_scratch1
abbrev pM : Memref sig .tc .vmem S1024x1024 .bf16 := Memref.whole cc0_stg0_0
abbrev rM : Memref sig .tc .vmem S1024x1024 .bf16 := Memref.whole cc0_stg1_0
abbrev gM : Memref sig .tc .vmem S1x1024 .bf16 := Memref.whole cc0_stg2_0
abbrev uM : Memref sig .tc .vmem S1024x1024 .bf16 := Memref.whole cc0_stg3_0

/-- Chunk `k` of device `c`'s receive buffer, at `f`. -/
abbrev oPts (c : Dev nD) (k : Fin 16) (q : PosShare TreeShare) (f : Blk F) : sProp 𝕄 := ((c : Thread nD τ).loc cc0_scratch0) ↦[(chunkR k).set]{q} f
/-- Chunk `j` of device `c`'s send buffer, at `f`. -/
abbrev sPts (c : Dev nD) (j : Fin 6) (f : Snd F) : sProp 𝕄 := ((c : Thread nD τ).loc cc0_scratch1) ↦[(sndR j).set]{fullShare} f

/-- The units of one 64-row copy. -/
abbrev N : ℕ := (oM.slice (chunkR 0) (fun _ => rfl) : Memref sig .tc .vmem S64x1024 .bf16).view.dmaCredit
/-- A chunk counts for something. -/
theorem N_pos : 0 < N := View.dmaCredit_pos _ (by decide)

/-! ## Contents of the send buffer -/

/-- The chunk of the send buffer an element is in, as the copy that reads it. -/
def sndOf (i : S384x1024.Idx) : Fin 16 := ⟨(i 0).val / 64, by have h : (i 0).val < 384 := (i 0).isLt; omega⟩
/-- An element's place within its chunk of the send buffer. -/
def sndPos (i : S384x1024.Idx) : S64x1024.Idx := Fin.cons ⟨(i 0).val % 64, Nat.mod_lt _ (by decide)⟩ (fun a : Fin 1 => i a.succ)

/-- Chunk `j` of the send buffer. -/
def rdS (f : Snd F) (j : Fin 6) : Chk F := fun x => f ((sndR j).emb x)

/-- The send buffer, filled: chunk `j` is the rows copy `j` carries. -/
def sndB (A : Dev nD → Blk F) (c : Dev nD) : Snd F := fun i => rd (A c) (dch (sndOf i) c) (sndPos i)

/-- Chunk `t` of the send buffer is the chunk of the device's block that copy `t` carries. -/
theorem rdS_sndB (A : Dev nD → Blk F) (c : Dev nD) (t : Fin 16) (ht : t.val < 6) : rdS (sndB A c) ⟨t.val, ht⟩ = rd (A c) (dch t c) := by
  funext x
  have hx : (x 0).val < 64 := (x 0).isLt
  have h0 : ((((sndR ⟨t.val, ht⟩).emb x : S384x1024.Idx) 0 : Fin _) : ℕ) = 64 * t.val + 1 * (x 0).val := rfl
  have h1 : ((((sndR ⟨t.val, ht⟩).emb x : S384x1024.Idx) 1 : Fin _) : ℕ) = 0 + 1 * (x 1).val := rfl
  have e1 : sndOf ((sndR ⟨t.val, ht⟩).emb x) = t := by
    apply Fin.ext
    show ((((sndR ⟨t.val, ht⟩).emb x : S384x1024.Idx) 0 : Fin _) : ℕ) / 64 = t.val
    rw [h0]; omega
  have e2 : sndPos ((sndR ⟨t.val, ht⟩).emb x) = x := by
    funext a
    apply Fin.ext
    match a with
    | ⟨0, _⟩ =>
      show ((((sndR ⟨t.val, ht⟩).emb x : S384x1024.Idx) 0 : Fin _) : ℕ) % 64 = (x 0).val
      rw [h0]; omega
    | ⟨1, _⟩ =>
      show ((((sndR ⟨t.val, ht⟩).emb x : S384x1024.Idx) 1 : Fin _) : ℕ) = (x 1).val
      rw [h1]; omega
  show rd (A c) (dch (sndOf ((sndR ⟨t.val, ht⟩).emb x)) c) (sndPos ((sndR ⟨t.val, ht⟩).emb x)) = _
  rw [e1, e2]

/-! ## The schedule -/

section Sched

variable (A : Dev nD → Blk F)

/-- The share of its rows that copy `t ≥ 6` is lent. -/
def lent (t : Fin 16) : PosShare TreeShare :=
  if t.val < 10 then fullShare.right.left else if t.val < 14 then fullShare.right.right else fullShare.right
/-- The share of landing `t` that stays with the device when its rows are passed on. -/
def kept (t : Fin 16) : PosShare TreeShare :=
  if t.val < 4 ∨ t.val = 10 ∨ t.val = 7 then fullShare.left else fullShare

/-- The right to write what copy `t` of device `c` writes. -/
def grant (c : Dev nD) (t : Fin 16) : sProp 𝕄 := iprop(∃ f, oPts (peer t c) (dch t c) fullShare f)

/-- The copies whose landings the x neighbour, the y neighbour, the z neighbour makes room for. -/
abbrev xList : List (Fin 16) := [6, 7, 8, 9, 14]
abbrev yList : List (Fin 16) := [10, 11, 12, 13, 15]
abbrev zList : List (Fin 16) := [0, 1, 2, 3, 4, 5]

/-- What a barrier signal from along x or y hands over: the rows there that copies of this device fill. -/
def barPay (c : Dev nD) (d : Bool) : sProp 𝕄 := each (if d then yList else xList) (grant c)
/-- The same of the signal along z. -/
def zPay (c : Dev nD) : sProp 𝕄 := each zList (grant c)
/-- Landing `t`. -/
def recvPay (t : Fin 16) (c : Dev nD) : sProp 𝕄 := oPts c (rch t c) fullShare (oth A c)
/-- What copy `t` read, back. -/
def sendPay (t : Fin 16) (c : Dev nD) : sProp 𝕄 :=
  if h : t.val < 6 then sPts c ⟨t.val, h⟩ (sndB A c) else oPts c (dch t c) (lent t) (oth A c)

/-- Such a conjunction can be kept in an invariant when its parts can. -/
instance each_storable {I : Type} (l : List I) (Φ : I → sProp 𝕄) [∀ i, BI.Storable (upEmb : UEmb _ 𝕄) (Φ i)] :
    BI.Storable (upEmb : UEmb _ 𝕄) (each l Φ) := by
  induction l with
  | nil => unfold each; infer_instance
  | cons a l ih => unfold each; infer_instance
/-- A grant can be kept in an invariant. -/
instance grant_storable (c : Dev nD) (t : Fin 16) : BI.Storable (upEmb : UEmb _ 𝕄) (grant (F := F) c t) := by unfold grant; infer_instance

/-- The copy a DMA semaphore of the protocol belongs to. -/
def copyOf (s : DmaSem sig) : Fin 16 := ⟨(s.val + 12) % 16, Nat.mod_lt _ (by decide)⟩
/-- The copy a semaphore belongs to, read off it. -/
theorem copyOf_r (t : Fin 16) : copyOf (rSem t) = t := by revert t; decide
theorem copyOf_s (t : Fin 16) : copyOf (sSem t) = t := by revert t; decide

/-- What a unit of a semaphore hands over. -/
def payOf (c : Dev nD) (sm : SemLoc sig) (d : Bool) : sProp 𝕄 :=
  match sm with
  | .reg s => if s = barrier0 then barPay c d else zPay c
  | .dma s => if s.val < 20 then recvPay A (copyOf s) c else sendPay A (copyOf s) c

/-- The duties of a semaphore's one round. -/
def dutiesOf (sm : SemLoc sig) : Finset Bool :=
  match sm with
  | .reg s => if s = barrier0 then Finset.univ else {false}
  | .dma s => if 4 ≤ s.val then {false} else ∅

/-- How much each duty pays. -/
def amountOf (sm : SemLoc sig) : ℕ :=
  match sm with
  | .reg _ => 1
  | .dma _ => N

/-- Every duty pays something. -/
theorem amountOf_pos (sm : SemLoc sig) : 0 < amountOf sm := by
  cases sm with
  | reg s => exact Nat.one_pos
  | dma s => exact N_pos

/-- The schedule: one round for every cell. -/
def RD : Rounds.Schedule (GSem nD τ sig) Bool 𝕄 where
  duties g r := if r = 0 ∧ g.1.2 = .tc then dutiesOf g.2 else ∅
  unitless _ := False
  amount g _ _ := amountOf g.2
  payload g _ d := payOf A g.1.1 g.2 d
  amount_pos g _ _ _ := amountOf_pos g.2

/-- What a duty hands over can be kept in an invariant. -/
instance RD_payload_storable (g : GSem nD τ sig) (r : ℕ) (d : Bool) : BI.Storable (upEmb : UEmb _ 𝕄) ((RD A).payload g r d) := by
  show BI.Storable upEmb (payOf A g.1.1 g.2 d)
  unfold payOf barPay zPay recvPay sendPay
  (repeat' split) <;> infer_instance

/-- The duties of each kind of cell in the round, and that there are none later. -/
theorem duties_bar (c : Dev nD) : (RD A).duties (barCell c) 0 = Finset.univ := rfl
theorem duties_z (c : Dev nD) : (RD A).duties (zCell c) 0 = {false} := rfl
theorem duties_recv (t : Fin 16) (c : Dev nD) : (RD A).duties (recvCell t c) 0 = {false} := by
  show (if 4 ≤ 4 + t.val then ({false} : Finset Bool) else ∅) = {false}
  exact if_pos (by omega)
theorem duties_send (t : Fin 16) (c : Dev nD) : (RD A).duties (sendCell t c) 0 = {false} := by
  show (if 4 ≤ 20 + t.val then ({false} : Finset Bool) else ∅) = {false}
  exact if_pos (by omega)
theorem duties_later (g : GSem nD τ sig) : ∀ r, 1 ≤ r → (RD A).duties g r = ∅ :=
  fun r hr => by dsimp only [RD]; rw [if_neg (fun h => by omega)]

/-- What a round of each kind of cell amounts to. -/
theorem expect_bar (c : Dev nD) : (RD A).expect (barCell c) 0 = 2 := by
  unfold Schedule.expect Schedule.amountOf; rw [duties_bar]; rfl
theorem expect_z (c : Dev nD) : (RD A).expect (zCell c) 0 = 1 := by
  unfold Schedule.expect Schedule.amountOf; rw [duties_z, Finset.sum_singleton]; rfl
theorem expect_recv (t : Fin 16) (c : Dev nD) : (RD A).expect (recvCell t c) 0 = N := by
  unfold Schedule.expect Schedule.amountOf; rw [duties_recv, Finset.sum_singleton]; rfl
theorem expect_send (t : Fin 16) (c : Dev nD) : (RD A).expect (sendCell t c) 0 = N := by
  unfold Schedule.expect Schedule.amountOf; rw [duties_send, Finset.sum_singleton]; rfl

/-- What a duty of each kind of cell hands over. -/
theorem pay_recv (t : Fin 16) (c : Dev nD) (d : Bool) : (RD A).payload (recvCell t c) 0 d = recvPay A t c := by
  show (if 4 + t.val < 20 then recvPay A (copyOf (rSem t)) c else sendPay A (copyOf (rSem t)) c) = _
  rw [if_pos (by have := t.isLt; omega), copyOf_r]
theorem pay_send (t : Fin 16) (c : Dev nD) (d : Bool) : (RD A).payload (sendCell t c) 0 d = sendPay A t c := by
  show (if 20 + t.val < 20 then recvPay A (copyOf (sSem t)) c else sendPay A (copyOf (sSem t)) c) = _
  rw [if_neg (by omega), copyOf_s]
theorem pay_bar (c : Dev nD) (d : Bool) : (RD A).payload (barCell c) 0 d = barPay c d := rfl
theorem pay_z (c : Dev nD) (d : Bool) : (RD A).payload (zCell c) 0 d = zPay c := rfl

/-- What a wait that takes the whole round gets, for each kind of cell. -/
theorem rest_recv (t : Fin 16) (c : Dev nD) : bigSep ((RD A).duties (recvCell t c) 0 \ ∅) (fun d => (RD A).payload (recvCell t c) 0 d) = recvPay A t c := by
  rw [Finset.sdiff_empty, duties_recv, bigSep_singleton, pay_recv]
theorem rest_send (t : Fin 16) (c : Dev nD) : bigSep ((RD A).duties (sendCell t c) 0 \ ∅) (fun d => (RD A).payload (sendCell t c) 0 d) = sendPay A t c := by
  rw [Finset.sdiff_empty, duties_send, bigSep_singleton, pay_send]
theorem rest_z (c : Dev nD) : bigSep ((RD A).duties (zCell c) 0 \ ∅) (fun d => (RD A).payload (zCell c) 0 d) = zPay c := by
  rw [Finset.sdiff_empty, duties_z, bigSep_singleton, pay_z]
theorem rest_bar (c : Dev nD) : bigSep ((RD A).duties (barCell c) 0 \ ∅) (fun d => (RD A).payload (barCell c) 0 d)
    = iprop(each xList (grant c) ∗ each yList (grant c) ∗ emp) := by
  rw [Finset.sdiff_empty, duties_bar, each_univ [false, true] (by decide) (by decide)]
  rfl

end Sched

/-! ## What is owed, and the levels -/

/-- The order in which a device makes its copies. -/
abbrev order : List (Fin 16) := [0, 1, 2, 3, 4, 5, 6, 10, 7, 11, 8, 12, 9, 13, 14, 15]

/-- The units device `c` owes to the receivers of the copies in a list. -/
def owed (c : Dev nD) : List (Fin 16) → CellTallies nD τ sig Unit
  | [] => 0
  | t :: l => owed c l + tallyAt (recvCell t (peer t c)) () N

/-- At launch: the copies, and a unit to each neighbour's handshake. -/
def O₀ (c : Dev nD) : CellTallies nD τ sig Unit :=
  ((owed c order + tallyAt (zCell (flipZ c)) () 1) + tallyAt (barCell (flipY c)) () 1) + tallyAt (barCell (flipX c)) () 1

/-- The level of landing `t`. -/
def rlev (t : Fin 16) : ℕ := if t.val < 6 then 2 else if t.val < 14 then 3 else 4

/-- The labels of a cell, and its level: handshakes, then arrivals from along z, from along x and y, and forwarded ones. -/
def L (g : GSem nD τ sig) : Finset Unit := if g.1.2 = .tc then {()} else ∅
def lv (g : GSem nD τ sig) (_ : Unit) : ℕ :=
  match g.2 with
  | .reg _ => 1
  | .dma s => if 4 ≤ s.val ∧ s.val < 20 then rlev (copyOf s) else 0

/-- Only cells of the cores that run the body have a label. -/
theorem L_of_ne (g : GSem nD τ sig) (h : g.1.2 ≠ .tc) : L g = ∅ := if_neg h
theorem L_tc (c : Dev nD) (sm : SemLoc sig) : L ((c : Thread nD τ), sm) = {()} := if_pos rfl
/-- The level of an arrival. -/
theorem lv_recv (t : Fin 16) (c : Dev nD) (u : Unit) : lv (recvCell t c) u = rlev t := by
  show (if 4 ≤ 4 + t.val ∧ 4 + t.val < 20 then rlev (copyOf (rSem t)) else 0) = _
  rw [if_pos ⟨by omega, by have := t.isLt; omega⟩, copyOf_r]

/-- Whatever is owed for a list is owed to the receiver of one of its copies. -/
theorem owed_pos (c : Dev nD) (l : List (Fin 16)) (g : GSem nD τ sig) (u : Unit) (h : 0 < owed c l g u) :
    ∃ t ∈ l, g = recvCell t (peer t c) := by
  induction l with
  | nil => exact absurd h (Nat.lt_irrefl 0)
  | cons t l ih =>
    have h' : 0 < owed c l g u + tallyAt (recvCell t (peer t c)) () N g u := h
    by_cases hg : g = recvCell t (peer t c)
    · exact ⟨t, List.mem_cons_self, hg⟩
    · rw [tallyAt_apply, if_neg (fun e => hg e.1), Nat.add_zero] at h'
      obtain ⟨t', ht', e⟩ := ih h'
      exact ⟨t', List.mem_cons_of_mem _ ht', e⟩

/-- A device may wait on a semaphore below everything it owes. -/
theorem mayWait (c : Dev nD) (sm : SemLoc sig) (l : List (Fin 16)) (b : ℕ) (hb : lv ((c : Thread nD τ), sm) () ≤ b) (hl : ∀ t ∈ l, b < rlev t) :
    (levAts L lv : sProp 𝕄) ⊢ MayWait (c : Thread nD τ) sm () (owed c l) :=
  MayOwe.of_cut (L := L) (lev := lv) b (fun p hp => by rw [Finset.mem_singleton.mp hp, L_tc]; exact Finset.mem_singleton_self _)
    (fun g u hg => by
      obtain ⟨t, _, e⟩ := owed_pos c l g u hg
      rw [e, L_tc]; exact Finset.mem_singleton_self _)
    (fun p hp => by rw [Finset.mem_singleton.mp hp]; exact hb)
    (fun g u hg => by
      obtain ⟨t, ht, e⟩ := owed_pos c l g u hg
      rw [e, lv_recv]; exact hl t ht)

/-! ## What every device may use without keeping it -/

variable (A : Dev nD → Blk F)

/-- Every cell's invariant, every cell's first round reached, and the levels: all persistent. -/
def Ctx (κ : GSem nD τ sig → ℕ) : sProp 𝕄 :=
  iprop((bigSep allCells fun g => cellInv ER (RD A) (κ g) g) ∗ (bigSep allCells fun g => reached ER g 0) ∗ levAts L lv)

instance (κ : GSem nD τ sig → ℕ) : BI.Persistent (Ctx A κ) := by unfold Ctx; infer_instance

/-- What holds of every cell holds of one. -/
theorem all_elim (Φ : GSem nD τ sig → sProp 𝕄) (p : Dev nD × Cel) : bigSep allCells Φ ⊢ Φ (celAt p) := bigSep_elim (celAt_mem p)

/-- Each cell's invariant, that its round has been reached, and the levels, out of the shared context. -/
theorem ctx_inv (κ : GSem nD τ sig → ℕ) (p : Dev nD × Cel) : Ctx A κ ⊢ cellInv ER (RD A) (κ (celAt p)) (celAt p) := by
  unfold Ctx
  iintro ⟨H, -, -⟩
  iapply (all_elim (fun g => cellInv ER (RD A) (κ g) g) p); iexact H
theorem ctx_reached (κ : GSem nD τ sig → ℕ) (p : Dev nD × Cel) : Ctx A κ ⊢ reached ER (celAt p) 0 := by
  unfold Ctx
  iintro ⟨-, H, -⟩
  iapply (all_elim (fun g => (reached ER g 0 : sProp 𝕄)) p); iexact H
theorem ctx_lev (κ : GSem nD τ sig → ℕ) : Ctx A κ ⊢ levAts L lv := by
  unfold Ctx
  iintro ⟨-, -, H⟩; iexact H

end Cert.Bidir
-- ==== Proof.State.lean ====
/-
  The state of a device between two operations of the body, as lists of copies, and one lemma for each kind of
  operation: a signal, a copy, a wait for a landing or for an own copy, the filling of a chunk of the send buffer, the
  computation of a chunk of the result. Each lemma says what an operation moves between the lists.
-/
module

public import proofs.«01_k».proof.Proof.Schedule

@[expose] public section

noncomputable section

namespace Cert.Bidir

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- The body calls nothing. -/
abbrev 𝒱₀ : Variants := Variants.none

/-! ## The state -/

section State

variable (A R : Dev nD → Blk F) (G : Dev nD → Gam F) (c : Dev nD)

/-- Landing `t` awaited; landed, the device's share of it. -/
def pend (t : Fin 16) : sProp 𝕄 := iprop(atPos ER (recvCell t c) 0 ∅ 0 ∗ cred (tallyAt (recvCell t c) () N))
/-- Copy `t` has arrived, and part of its chunk is kept. -/
def arr (t : Fin 16) : sProp 𝕄 := iprop(atPos ER (recvCell t c) 1 ∅ 0 ∗ oPts c (rch t c) (kept t) (oth A c))
/-- Copy `t` to be made; on its way; done, its rows back. -/
def todo (t : Fin 16) : sProp 𝕄 :=
  iprop(dutyTok ER (sendCell t c) 0 false ∗ dutyTok ER (recvCell t (peer t c)) 0 false ∗ atPos ER (sendCell t c) 0 ∅ 0)
/-- Copy `t` has been started, and has not been waited for. -/
def flying (t : Fin 16) : sProp 𝕄 := iprop(cred (tallyAt (sendCell t c) () N) ∗ atPos ER (sendCell t c) 0 ∅ 0)
/-- Copy `t` has been sent, and what was lent to it is back. -/
def home (t : Fin 16) : sProp 𝕄 := iprop(atPos ER (sendCell t c) 1 ∅ 0 ∗ sendPay A t c)
/-- A chunk of the send buffer not filled yet. -/
def raw (j : Fin 6) : sProp 𝕄 := iprop(∃ f, sPts c j f)

/-- The staged inputs. -/
def ins : sProp 𝕄 := iprop((((c : Thread nD τ).loc cc0_stg0_0) ↦{fullShare} A c) ∗ (((c : Thread nD τ).loc cc0_stg1_0) ↦{fullShare} R c)
  ∗ (((c : Thread nD τ).loc cc0_stg2_0) ↦{fullShare} G c))
/-- The result's buffer, right on the chunks of the landings in a list. -/
def outs (l : List (Fin 16)) : sProp 𝕄 :=
  iprop(∃ f : Blk F, (((c : Thread nD τ).loc cc0_stg3_0) ↦{fullShare} f) ∗ ⌜∀ t ∈ l, ∀ i ∈ (chunkR (rch t c)).set, f i = outB A R G c i⌝)

/-- Where the copies are: landings awaited, landed; rows ready to be passed on; chunks of the send buffer not filled; copies to be made;
    rights to write held; copies on their way; copies done; landings computed with. -/
structure Phase where
  rv : List (Fin 16)
  ar : List (Fin 16)
  rdy : List (Fin 16)
  rw_ : List (Fin 6)
  sd : List (Fin 16)
  gr : List (Fin 16)
  fl : List (Fin 16)
  hm : List (Fin 16)
  dn : List (Fin 16)

/-- The state at a phase, owing `O`, with `X` aside. -/
def St (κ : GSem nD τ sig → ℕ) (σ : Phase) (O : CellTallies nD τ sig Unit) (X : sProp 𝕄) : sProp 𝕄 :=
  iprop(Ctx A κ ∗ each σ.rv (pend c) ∗ each σ.ar (arr A c) ∗ each σ.rdy (fun t => sendPay A t c) ∗ each σ.rw_ (raw c) ∗ each σ.sd (todo c)
    ∗ each σ.gr (grant c) ∗ each σ.fl (flying c) ∗ each σ.hm (home A c) ∗ outs A R G c σ.dn ∗ ins A R G c
    ∗ (∃ W, owes (c : Thread nD τ) O W) ∗ X)

end State

/-- What is left to run of the body. -/
abbrev Pg (F : FTy → Type) : Type 1 := Prog (TpuEff nD τ sig (Elt F) Λ₀ .tc) PUnit.{1}

/-- That running it on device `c` ends in `Q`. -/
abbrev WP (c : Dev nD) (p : Pg F) (Q : PUnit.{1} → sProp 𝕄) : sProp 𝕄 := wp frame (wpE (defs₀ (F := F)) 𝒱₀ (c : Thread nD τ) none) Set.univ p Q

/-- One of a list, taken out and put back. -/
theorem each_borrow {I : Type} (l : List I) (Φ : I → sProp 𝕄) (a : I) (h : a ∈ l) : each l Φ ⊢ iprop(Φ a ∗ (Φ a -∗ each l Φ)) := by
  induction l with
  | nil => exact absurd h List.not_mem_nil
  | cons b l ih =>
    by_cases e : a = b
    · subst e
      show iprop(Φ a ∗ each l Φ) ⊢ iprop(Φ a ∗ (Φ a -∗ (Φ a ∗ each l Φ)))
      iintro ⟨H, Hl⟩
      isplitl [H]; · iexact H
      iintro H; isplitl [H]; · iexact H
      iexact Hl
    · have hl : a ∈ l := (List.mem_cons.mp h).resolve_left e
      show iprop(Φ b ∗ each l Φ) ⊢ iprop(Φ a ∗ (Φ a -∗ (Φ b ∗ each l Φ)))
      iintro ⟨H, Hl⟩
      ihave Hb := (ih hl) $$ Hl
      icases Hb with ⟨Ha, Hw⟩
      isplitl [Ha]; · iexact Ha
      iintro Ha
      isplitl [H]; · iexact H
      iapply Hw; iexact Ha

/-- Conjunction is associative, and commutative. -/
theorem sep_shift (P P' P'' : sProp 𝕄) : iprop((P ∗ P') ∗ P'') = iprop(P ∗ P' ∗ P'') := equiv_iff.mp ⟨BI.sep_assoc, BI.sep_assoc'⟩
theorem sep_swap (P P' : sProp 𝕄) : iprop(P ∗ P') = iprop(P' ∗ P) := equiv_iff.mp ⟨BI.sep_comm, BI.sep_comm⟩

/-- One more entry; the order of a list does not matter; a list in two pieces. -/
theorem each_push {I : Type} (a : I) (l : List I) (Φ : I → sProp 𝕄) : iprop(Φ a ∗ each l Φ) ⊢ each (a :: l) Φ := .rfl

theorem each_perm {I : Type} {l l' : List I} (h : l.Perm l') (Φ : I → sProp 𝕄) : each l Φ = each l' Φ := by
  induction h with
  | nil => rfl
  | cons a _ ih => show iprop(Φ a ∗ each _ Φ) = iprop(Φ a ∗ each _ Φ); rw [ih]
  | swap a b l => show iprop(Φ b ∗ Φ a ∗ each l Φ) = iprop(Φ a ∗ Φ b ∗ each l Φ); rw [← sep_shift, sep_swap (Φ b), sep_shift]
  | trans _ _ ih₁ ih₂ => exact ih₁.trans ih₂

theorem each_append {I : Type} (l l' : List I) (Φ : I → sProp 𝕄) : each (l ++ l') Φ = iprop(each l Φ ∗ each l' Φ) := by
  induction l with
  | nil => exact (equiv_iff.mp BI.emp_sep).symm
  | cons a l ih => show iprop(Φ a ∗ each (l ++ l') Φ) = iprop((Φ a ∗ each l Φ) ∗ each l' Φ); rw [ih]; exact (sep_shift (Φ a) (each l Φ) (each l' Φ)).symm

/-- A chunk's points-to, through the chunk's view. -/
theorem oPts_view (c : Dev nD) (k : Fin 16) (q : PosShare TreeShare) (f : Blk F) :
    (oPts c k q f : sProp 𝕄) = ((oM.slice (chunkR k) (fun _ => rfl)).view.loc (c : Thread nD τ) ↦[(oM.slice (chunkR k) (fun _ => rfl)).view.set]{q} f) :=
  congrArg (fun S : Finset S1024x1024.Idx => (((c : Thread nD τ).loc cc0_scratch0) ↦[S]{q} f : sProp 𝕄)) (View.set_slice_whole cc0_scratch0 (chunkR k)).symm
/-- A chunk of the send buffer, as a view of the buffer. -/
theorem sPts_view (c : Dev nD) (j : Fin 6) (f : Snd F) :
    (sPts c j f : sProp 𝕄) = ((sM.slice (sndR j) (fun _ => rfl)).view.loc (c : Thread nD τ) ↦[(sM.slice (sndR j) (fun _ => rfl)).view.set]{fullShare} f) :=
  congrArg (fun S : Finset S384x1024.Idx => (((c : Thread nD τ).loc cc0_scratch1) ↦[S]{fullShare} f : sProp 𝕄)) (View.set_slice_whole cc0_scratch1 (sndR j)).symm

section Steps

variable (A R : Dev nD → Blk F) (G : Dev nD → Gam F) (c : Dev nD) (κ : GSem nD τ sig → ℕ)

/-! ## Copies -/

/-- What copy `t ≥ 6` writes on the receiver is what landing `t` is to hold there. -/
theorem landed_fwd (t : Fin 16) (ht : 6 ≤ t.val) (fd : Blk F) (i : S1024x1024.Idx) (hi : i ∈ (chunkR (dch t c)).set) :
    (oM.slice (chunkR (dch t c)) (fun _ => rfl)).view.write (Elt F) fd ((oM.slice (chunkR (dch t c)) (fun _ => rfl)).view.read (Elt F) (oth A c)) Finset.univ i
      = oth A (peer t c) i := by
  obtain ⟨x, rfl⟩ := exists_emb hi
  refine (View.write_emb_of_mem (v := (oM.slice (chunkR (dch t c)) (fun _ => rfl)).view) (Val := Elt F) fd _ (Finset.mem_univ x)).trans ?_
  exact (congrFun (rd_oth_fwd A t c ht) x).symm

/-- What copy `t < 6` writes on the receiver is what landing `t` is to hold there. -/
theorem landed_z (t : Fin 16) (ht : t.val < 6) (fd : Blk F) (i : S1024x1024.Idx) (hi : i ∈ (chunkR (dch t c)).set) :
    (oM.slice (chunkR (dch t c)) (fun _ => rfl)).view.write (Elt F) fd ((sM.slice (sndR ⟨t.val, ht⟩) (fun _ => rfl)).view.read (Elt F) (sndB A c)) Finset.univ i
      = oth A (peer t c) i := by
  obtain ⟨x, rfl⟩ := exists_emb hi
  refine (View.write_emb_of_mem (v := (oM.slice (chunkR (dch t c)) (fun _ => rfl)).view) (Val := Elt F) fd _ (Finset.mem_univ x)).trans ?_
  exact (congrFun ((rdS_sndB A c t ht).trans (rd_oth_z A t c ht).symm) x)

/-- Copy `t ≥ 6`: the receiver's chunk and the rows ready give the copy on its way. -/
theorem step_fwd (t : Fin 16) (ht : 6 ≤ t.val) {rv ar r : List (Fin 16)} {rw_ : List (Fin 6)} {l g fl hm dn : List (Fin 16)}
    {X : sProp 𝕄} {d : Dev nD} (hd : d = peer t c) {off : Fin 2 → ℕ} {h1 h2} (ho : off = rowOf (rch (srcOf t) c)) {sR sS : DmaSem sig} (hsR : sR = rSem t) (hsS : sS = sSem t)
    {u1 u2 hsc hw hw' hty} {k : PUnit.{1} → Pg F} {Q : PUnit.{1} → sProp 𝕄}
    (hk : St A R G c κ ⟨rv, ar, r, rw_, l, g, t :: fl, hm, dn⟩ (owed c l) X ⊢ WP c (k ⟨⟩) Q) :
    St A R G c κ ⟨rv, ar, t :: r, rw_, t :: l, t :: g, fl, hm, dn⟩ (owed c (t :: l)) X ⊢ WP c (.op (.enqueueDma (oM.slice (Rect.unit (s := S1024x1024) off S64x1024.size h1) u1)
      (.remote (Dev.tc d) (oM.slice (Rect.unit (s := S1024x1024) off S64x1024.size h2) u2) (.dma sS) hsc) (.dma sR) hw hw' hty) k) Q := by
  subst hd hsR hsS
  have ho' : off = rowOf (dch t c) := ho.trans (by rw [dch_srcOf t c])
  subst ho'
  have hpay : sendPay A t c = oPts c (dch t c) (lent t) (oth A c) := dif_neg (by omega)
  unfold St
  show iprop(Ctx A κ ∗ each rv (pend c) ∗ each ar (arr A c) ∗ (sendPay A t c ∗ each r (fun t => sendPay A t c)) ∗ each rw_ (raw c) ∗ (todo c t ∗ each l (todo c))
    ∗ (grant c t ∗ each g (grant c)) ∗ each fl (flying c) ∗ each hm (home A c) ∗ outs A R G c dn ∗ ins A R G c
    ∗ (∃ W, owes (c : Thread nD τ) (owed c (t :: l)) W) ∗ X) ⊢ _
  iintro ⟨#HC, Hrv, Har, ⟨Hsrc, Hrdy⟩, Hrw, ⟨Htd, Hsd⟩, ⟨Hg, Hgr⟩, Hfl, Hhm, Hout, Hin, ⟨%W, HO⟩, HX⟩
  unfold grant todo
  icases Htd with ⟨Hts, Htr, Hat⟩
  icases Hg with ⟨%fd, Hdst⟩
  ihave Hsrc := (Entails.of_eq hpay) $$ Hsrc
  ihave HI1 := (ctx_inv A κ (c, .inr (.inr (.inr t)))) $$ HC
  ihave HI2 := (ctx_inv A κ (peer t c, .inr (.inr (.inl t)))) $$ HC
  ihave Hr1 := (ctx_reached A κ (c, .inr (.inr (.inr t)))) $$ HC
  ihave Hr2 := (ctx_reached A κ (peer t c, .inr (.inr (.inl t)))) $$ HC
  iapply (Rounds.wp_send_pointsTo 𝒱₀ ER (RD A) (c : Thread nD τ) none (c' := (peer t c : Thread nD τ))
      (src := oM.slice (chunkR (dch t c)) u1) (dst := oM.slice (chunkR (dch t c)) u2)
      (sS := .dma (sSem t)) (sem := .dma (rSem t)) (q := lent t) (fs := oth A c) (κ₁ := κ (sendCell t c)) (κ₂ := κ (recvCell t (peer t c)))
      (r₁ := 0) (r₂ := 0) (d₁ := false) (d₂ := false) (fd := fd)
      (by rw [duties_send]; exact Finset.mem_singleton_self _) (by rw [duties_recv]; exact Finset.mem_singleton_self _)
      () () N rfl rfl rfl (owed c l) rfl (W := W)
      (by rw [pay_send, hpay]
          exact Entails.of_eq (oPts_view c (dch t c) (lent t) (oth A c)).symm)
      (by rw [pay_recv]; unfold recvPay; rw [dch_peer]
          exact Entails.of_eq ((oPts_view (peer t c) (dch t c) fullShare _).symm.trans (pointsTo_congr fun i hi => landed_fwd A c t ht fd i hi)))) $$ [Hsrc Hdst HO Hts Htr HI1 HI2 Hr1 Hr2]
  · isplitl [HI1]; · iexact HI1
    isplitl [HI2]; · iexact HI2
    isplitl [Hsrc]; · iapply (Entails.of_eq (oPts_view c (dch t c) (lent t) (oth A c))); iexact Hsrc
    isplitl [Hdst]; · iapply (Entails.of_eq (oPts_view (peer t c) (dch t c) fullShare fd)); iexact Hdst
    isplitl [HO]; · iexact HO
    isplitl [Hts]; · iexact Hts
    isplitl [Hr1]; · iexact Hr1
    isplitl [Htr]; · iexact Htr
    iexact Hr2
  iintro ⟨Hcr, HO⟩
  ihave Hfl : each (t :: fl) (flying c) $$ [Hfl Hcr Hat]
  · iapply (each_push t fl (flying c)); unfold flying; iframe
  ihave HO : iprop(∃ W, owes (c : Thread nD τ) (owed c l) W) $$ [HO]
  · iexists W; iexact HO
  iapply hk
  unfold St
  iframe HC Hrv Har Hrdy Hrw Hsd Hgr Hfl Hhm Hout Hin HO HX

end Steps

end Cert.Bidir
-- ==== Proof.Steps.lean ====
/-
  One lemma for each kind of operation of the body (but the copies of rows already received, and the computation).
-/
module

public import proofs.«01_k».proof.Proof.State

@[expose] public section

noncomputable section

namespace Cert.Bidir

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

section Steps

variable (A R : Dev nD → Blk F) (G : Dev nD → Gam F) (c : Dev nD) (κ : GSem nD τ sig → ℕ)

/-- Copy `t < 6`: as `step_fwd`, the rows from the send buffer. -/
theorem step_z (t : Fin 16) (ht : t.val < 6) {rv ar r : List (Fin 16)} {rw_ : List (Fin 6)} {l g fl hm dn : List (Fin 16)}
    {X : sProp 𝕄} {d : Dev nD} (hd : d = peer t c) {so off : Fin 2 → ℕ} {h1 h2} (hso : so = ![64 * t.val, 0]) (ho : off = rowOf (rch t c))
    {sR sS : DmaSem sig} (hsR : sR = rSem t) (hsS : sS = sSem t)
    {u1 u2 hsc hw hw' hty} {k : PUnit.{1} → Pg F} {Q : PUnit.{1} → sProp 𝕄}
    (hk : St A R G c κ ⟨rv, ar, r, rw_, l, g, t :: fl, hm, dn⟩ (owed c l) X ⊢ WP c (k ⟨⟩) Q) :
    St A R G c κ ⟨rv, ar, t :: r, rw_, t :: l, t :: g, fl, hm, dn⟩ (owed c (t :: l)) X ⊢ WP c (.op (.enqueueDma (sM.slice (Rect.unit (s := S384x1024) so S64x1024.size h1) u1)
      (.remote (Dev.tc d) (oM.slice (Rect.unit (s := S1024x1024) off S64x1024.size h2) u2) (.dma sS) hsc) (.dma sR) hw hw' hty) k) Q := by
  subst hd hsR hsS hso
  have ho' : off = rowOf (dch t c) := ho.trans (by rw [dch_srcOf t c]; unfold srcOf; rw [if_pos ht])
  subst ho'
  have hpay : sendPay A t c = sPts c ⟨t.val, ht⟩ (sndB A c) := dif_pos ht
  unfold St
  show iprop(Ctx A κ ∗ each rv (pend c) ∗ each ar (arr A c) ∗ (sendPay A t c ∗ each r (fun t => sendPay A t c)) ∗ each rw_ (raw c) ∗ (todo c t ∗ each l (todo c))
    ∗ (grant c t ∗ each g (grant c)) ∗ each fl (flying c) ∗ each hm (home A c) ∗ outs A R G c dn ∗ ins A R G c
    ∗ (∃ W, owes (c : Thread nD τ) (owed c (t :: l)) W) ∗ X) ⊢ _
  iintro ⟨#HC, Hrv, Har, ⟨Hsrc, Hrdy⟩, Hrw, ⟨Htd, Hsd⟩, ⟨Hg, Hgr⟩, Hfl, Hhm, Hout, Hin, ⟨%W, HO⟩, HX⟩
  unfold grant todo
  icases Htd with ⟨Hts, Htr, Hat⟩
  icases Hg with ⟨%fd, Hdst⟩
  ihave Hsrc := (Entails.of_eq hpay) $$ Hsrc
  ihave HI1 := (ctx_inv A κ (c, .inr (.inr (.inr t)))) $$ HC
  ihave HI2 := (ctx_inv A κ (peer t c, .inr (.inr (.inl t)))) $$ HC
  ihave Hr1 := (ctx_reached A κ (c, .inr (.inr (.inr t)))) $$ HC
  ihave Hr2 := (ctx_reached A κ (peer t c, .inr (.inr (.inl t)))) $$ HC
  iapply (Rounds.wp_send_pointsTo 𝒱₀ ER (RD A) (c : Thread nD τ) none (c' := (peer t c : Thread nD τ))
      (src := sM.slice (sndR ⟨t.val, ht⟩) u1) (dst := oM.slice (chunkR (dch t c)) u2)
      (sS := .dma (sSem t)) (sem := .dma (rSem t)) (q := fullShare) (fs := sndB A c) (κ₁ := κ (sendCell t c)) (κ₂ := κ (recvCell t (peer t c)))
      (r₁ := 0) (r₂ := 0) (d₁ := false) (d₂ := false) (fd := fd)
      (by rw [duties_send]; exact Finset.mem_singleton_self _) (by rw [duties_recv]; exact Finset.mem_singleton_self _)
      () () N rfl rfl rfl (owed c l) rfl (W := W)
      (by rw [pay_send, hpay]
          exact Entails.of_eq (sPts_view c ⟨t.val, ht⟩ (sndB A c)).symm)
      (by rw [pay_recv]; unfold recvPay; rw [dch_peer]
          exact Entails.of_eq ((oPts_view (peer t c) (dch t c) fullShare _).symm.trans (pointsTo_congr fun i hi => landed_z A c t ht fd i hi)))) $$ [Hsrc Hdst HO Hts Htr HI1 HI2 Hr1 Hr2]
  · isplitl [HI1]; · iexact HI1
    isplitl [HI2]; · iexact HI2
    isplitl [Hsrc]; · iapply (Entails.of_eq (sPts_view c ⟨t.val, ht⟩ (sndB A c))); iexact Hsrc
    isplitl [Hdst]; · iapply (Entails.of_eq (oPts_view (peer t c) (dch t c) fullShare fd)); iexact Hdst
    isplitl [HO]; · iexact HO
    isplitl [Hts]; · iexact Hts
    isplitl [Hr1]; · iexact Hr1
    isplitl [Htr]; · iexact Htr
    iexact Hr2
  iintro ⟨Hcr, HO⟩
  ihave Hfl : each (t :: fl) (flying c) $$ [Hfl Hcr Hat]
  · iapply (each_push t fl (flying c)); unfold flying; iframe
  ihave HO : iprop(∃ W, owes (c : Thread nD τ) (owed c l) W) $$ [HO]
  · iexists W; iexact HO
  iapply hk
  unfold St
  iframe HC Hrv Har Hrdy Hrw Hsd Hgr Hfl Hhm Hout Hin HO HX

/-! ## Waits -/

/-- The wait for landing `t`: what it brings is kept in part, the rest ready for the copies `ls` that pass it on. -/
theorem step_recv (t : Fin 16) (ls : List (Fin 16)) {l ar : List (Fin 16)} {rw_ : List (Fin 6)} {sd gr fl hm dn : List (Fin 16)}
    (hls : (recvPay A t c : sProp 𝕄) ⊢ iprop(oPts c (rch t c) (kept t) (oth A c) ∗ each ls (fun u => sendPay A u c)))
    (hlev : ∀ u ∈ sd, rlev t < rlev u) {X : sProp 𝕄} {s : DmaSem sig} (hs : s = rSem t)
    {sp sp' : Space} {s₁ s₂ : Shape} {e₁ e₂ : EltTy} {src : Memref sig .tc sp' s₂ e₂} {dst : Memref sig .tc sp s₁ e₁} (hN : dst.view.dmaCredit = N)
    {hw hw'} {k : PUnit.{1} → Pg F} {Q : PUnit.{1} → sProp 𝕄}
    (hk : St A R G c κ ⟨l, t :: ar, ls, rw_, sd, gr, fl, hm, dn⟩ (owed c sd) X ⊢ WP c (k ⟨⟩) Q) :
    St A R G c κ ⟨t :: l, ar, [], rw_, sd, gr, fl, hm, dn⟩ (owed c sd) X ⊢ WP c (.op (.waitDma2 s src dst hw hw') k) Q := by
  subst hs
  unfold St
  show iprop(Ctx A κ ∗ (pend c t ∗ each l (pend c)) ∗ each ar (arr A c) ∗ emp ∗ each rw_ (raw c) ∗ each sd (todo c)
    ∗ each gr (grant c) ∗ each fl (flying c) ∗ each hm (home A c) ∗ outs A R G c dn ∗ ins A R G c
    ∗ (∃ W, owes (c : Thread nD τ) (owed c sd) W) ∗ X) ⊢ _
  iintro ⟨#HC, ⟨Hp, Hrv⟩, Har, -, Hrw, Hsd, Hgr, Hfl, Hhm, Hout, Hin, ⟨%W, HO⟩, HX⟩
  unfold pend
  icases Hp with ⟨Hat, Hcr⟩
  ihave HI := (ctx_inv A κ (c, .inr (.inr (.inl t)))) $$ HC
  ihave HL := (ctx_lev A κ) $$ HC
  iapply (Rounds.wp_wait_rest_token 𝒱₀ ER (RD A) (c : Thread nD τ) none (κ := κ (recvCell t c))
      (wpE_waitDma2_eq 𝒱₀ (c : Thread nD τ) none Set.univ) (Set.mem_univ _) () (O := owed c sd) (W := W) (R := 0) (m := 0) (T := ∅)
      ((Nat.zero_add _).trans (hN.trans (expect_recv A t c).symm))) $$ [HI HL Hcr HO Hat]
  · isplitl [HI]; · iexact HI
    isplitl [Hcr]; · rw [hN]; iexact Hcr
    isplitl [HO]; · iexact HO
    isplitl [HL]; · iapply (mayWait c (.dma (rSem t)) sd (rlev t) (le_of_eq (lv_recv t c ())) hlev); iexact HL
    iexact Hat
  iintro ⟨HO, Hat, -, Hpay⟩
  ihave Hpay := (Entails.of_eq (rest_recv A t c)) $$ Hpay
  ihave Hpay := hls $$ Hpay
  icases Hpay with ⟨Hch, Hrdy⟩
  ihave Har : each (t :: ar) (arr A c) $$ [Har Hch Hat]
  · iapply (each_push t ar (arr A c)); unfold arr; iframe
  ihave HO : iprop(∃ W, owes (c : Thread nD τ) (owed c sd) W) $$ [HO]
  · iexists _; iexact HO
  iapply hk
  unfold St pend
  iframe HC Hrv Har Hrdy Hrw Hsd Hgr Hfl Hhm Hout Hin HO HX

/-- The wait for the own copy `t`, when nothing is owed: its rows come back. -/
theorem step_sent (t : Fin 16) {rv ar rdy : List (Fin 16)} {rw_ : List (Fin 6)} {sd gr l hm dn : List (Fin 16)} {X : sProp 𝕄} {s : DmaSem sig} (hs : s = sSem t)
    {sp sp' : Space} {s₁ s₂ : Shape} {e₁ e₂ : EltTy} {src : Memref sig .tc sp' s₂ e₂} {dst : Memref sig .tc sp s₁ e₁} (hN : dst.view.dmaCredit = N)
    {hw hw'} {k : PUnit.{1} → Pg F} {Q : PUnit.{1} → sProp 𝕄}
    (hk : St A R G c κ ⟨rv, ar, rdy, rw_, sd, gr, l, t :: hm, dn⟩ 0 X ⊢ WP c (k ⟨⟩) Q) :
    St A R G c κ ⟨rv, ar, rdy, rw_, sd, gr, t :: l, hm, dn⟩ 0 X ⊢ WP c (.op (.waitDma2 s src dst hw hw') k) Q := by
  subst hs
  unfold St
  show iprop(Ctx A κ ∗ each rv (pend c) ∗ each ar (arr A c) ∗ each rdy (fun t => sendPay A t c) ∗ each rw_ (raw c) ∗ each sd (todo c)
    ∗ each gr (grant c) ∗ (flying c t ∗ each l (flying c)) ∗ each hm (home A c) ∗ outs A R G c dn ∗ ins A R G c
    ∗ (∃ W, owes (c : Thread nD τ) 0 W) ∗ X) ⊢ _
  iintro ⟨#HC, Hrv, Har, Hrdy, Hrw, Hsd, Hgr, ⟨Hf, Hfl⟩, Hhm, Hout, Hin, ⟨%W, HO⟩, HX⟩
  unfold flying
  icases Hf with ⟨Hcr, Hat⟩
  ihave HI := (ctx_inv A κ (c, .inr (.inr (.inr t)))) $$ HC
  iapply (Rounds.wp_wait_rest_token 𝒱₀ ER (RD A) (c : Thread nD τ) none (κ := κ (sendCell t c))
      (wpE_waitDma2_eq 𝒱₀ (c : Thread nD τ) none Set.univ) (Set.mem_univ _) () (O := 0) (W := W) (R := 0) (m := 0) (T := ∅)
      ((Nat.zero_add _).trans (hN.trans (expect_send A t c).symm))) $$ [HI Hcr HO Hat]
  · isplitl [HI]; · iexact HI
    isplitl [Hcr]; · rw [hN]; iexact Hcr
    isplitl [HO]; · iexact HO
    isplitr; · rw [MayWait_zero]; iempintro
    iexact Hat
  iintro ⟨HO, Hat, -, Hpay⟩
  ihave Hpay := (Entails.of_eq (rest_send A t c)) $$ Hpay
  ihave Hhm : each (t :: hm) (home A c) $$ [Hhm Hpay Hat]
  · iapply (each_push t hm (home A c)); unfold home; iframe
  ihave HO : iprop(∃ W, owes (c : Thread nD τ) 0 W) $$ [HO]
  · iexists _; iexact HO
  iapply hk
  unfold St flying
  iframe HC Hrv Har Hrdy Hrw Hsd Hgr Hfl Hhm Hout Hin HO HX

/-! ## Signals -/

/-- A unit to a cell of a neighbour: its token and what it hands over are used up, and so is the unit owed. -/
theorem step_signal {σ : Phase} (O : CellTallies nD τ sig Unit) {X : sProp 𝕄} {d d' : Dev nD} (hd : d = d') (p : Cel) {s : Sem sig} (hs : csem p = .reg s)
    (b : Bool) (hb : b ∈ (RD A).duties ((d' : Thread nD τ), .reg s) 0)
    {k : PUnit.{1} → Pg F} {Q : PUnit.{1} → sProp 𝕄} (hk : St A R G c κ σ O X ⊢ WP c (k ⟨⟩) Q) :
    St A R G c κ σ (O + tallyAt ((d' : Thread nD τ), .reg s) () 1)
        iprop((dutyTok ER ((d' : Thread nD τ), .reg s) 0 b ∗ (RD A).payload ((d' : Thread nD τ), .reg s) 0 b) ∗ X)
      ⊢ WP c (.op (.semSignal (Dev.tc d) s 1) k) Q := by
  subst hd
  unfold St
  iintro ⟨#HC, Hrv, Har, Hrdy, Hrw, Hsd, Hgr, Hfl, Hhm, Hout, Hin, ⟨%W, HO⟩, ⟨Htok, Hpay⟩, HX⟩
  ihave HI := (ctx_inv A κ (d, p)) $$ HC
  ihave Hr := (ctx_reached A κ (d, p)) $$ HC
  dsimp only [celAt]
  rw [hs]
  iapply (Rounds.wp_signal 𝒱₀ ER (RD A) (c : Thread nD τ) none (dst := (d : Thread nD τ)) (sem := s) (r := 0) (d := b) (κ := κ ((d : Thread nD τ), .reg s))
      hb rfl () O rfl) $$ [HI HO Htok Hpay Hr]
  · isplitl [HI]; · iexact HI
    isplitl [HO]; · iexact HO
    isplitl [Htok]; · iexact Htok
    isplitl [Hpay]; · iexact Hpay
    iexact Hr
  iintro HO
  ihave HO : iprop(∃ W, owes (c : Thread nD τ) O W) $$ [HO]
  · iexists W; iexact HO
  iapply hk
  unfold St
  iframe HC Hrv Har Hrdy Hrw Hsd Hgr Hfl Hhm Hout Hin HO HX

/-- A wait on a handshake's cell, for all its units: the rights it hands over are held. -/
theorem step_shake {rv ar rdy : List (Fin 16)} {rw_ : List (Fin 6)} {sd fl hm dn : List (Fin 16)} {X : sProp 𝕄} (p : Cel) {s : Sem sig} (hs : csem p = .reg s) (n : ℕ)
    (hn : (RD A).expect ((c : Thread nD τ), .reg s) 0 = n) (gs : List (Fin 16))
    (hrest : bigSep ((RD A).duties ((c : Thread nD τ), .reg s) 0 \ ∅) (fun d => (RD A).payload ((c : Thread nD τ), .reg s) 0 d) ⊢ each gs (grant c))
    (hlev : ∀ u ∈ sd, 1 < rlev u)
    {k : PUnit.{1} → Pg F} {Q : PUnit.{1} → sProp 𝕄}
    (hk : St A R G c κ ⟨rv, ar, rdy, rw_, sd, gs, fl, hm, dn⟩ (owed c sd) iprop(atPos ER ((c : Thread nD τ), .reg s) 1 ∅ 0 ∗ X) ⊢ WP c (k ⟨⟩) Q) :
    St A R G c κ ⟨rv, ar, rdy, rw_, sd, [], fl, hm, dn⟩ (owed c sd) iprop((atPos ER ((c : Thread nD τ), .reg s) 0 ∅ 0 ∗ cred (tallyAt ((c : Thread nD τ), .reg s) () n)) ∗ X)
      ⊢ WP c (.op (.semWait s n) k) Q := by
  unfold St
  show iprop(Ctx A κ ∗ each rv (pend c) ∗ each ar (arr A c) ∗ each rdy (fun t => sendPay A t c) ∗ each rw_ (raw c) ∗ each sd (todo c)
    ∗ emp ∗ each fl (flying c) ∗ each hm (home A c) ∗ outs A R G c dn ∗ ins A R G c
    ∗ (∃ W, owes (c : Thread nD τ) (owed c sd) W) ∗ (atPos ER ((c : Thread nD τ), .reg s) 0 ∅ 0 ∗ cred (tallyAt ((c : Thread nD τ), .reg s) () n)) ∗ X) ⊢ _
  iintro ⟨#HC, Hrv, Har, Hrdy, Hrw, Hsd, -, Hfl, Hhm, Hout, Hin, ⟨%W, HO⟩, ⟨Hat, Hcr⟩, HX⟩
  ihave HI := (ctx_inv A κ (c, p)) $$ HC
  ihave HL := (ctx_lev A κ) $$ HC
  dsimp only [celAt]
  rw [hs]
  iapply (Rounds.wp_wait_rest_token 𝒱₀ ER (RD A) (c : Thread nD τ) none (κ := κ ((c : Thread nD τ), .reg s))
      (wpE_semWait_eq 𝒱₀ (c : Thread nD τ) none Set.univ) (Set.mem_univ _) () (O := owed c sd) (W := W) (R := 0) (m := 0) (T := ∅)
      ((Nat.zero_add _).trans hn.symm)) $$ [HI HL Hcr HO Hat]
  · isplitl [HI]; · iexact HI
    isplitl [Hcr]; · iexact Hcr
    isplitl [HO]; · iexact HO
    isplitl [HL]; · iapply (mayWait c (.reg s) sd 1 (le_refl _) hlev); iexact HL
    iexact Hat
  iintro ⟨HO, Hat, -, Hpay⟩
  ihave Hgr := hrest $$ Hpay
  ihave HO : iprop(∃ W, owes (c : Thread nD τ) (owed c sd) W) $$ [HO]
  · iexists _; iexact HO
  iapply hk
  unfold St
  iframe HC Hrv Har Hrdy Hrw Hsd Hgr Hfl Hhm Hout Hin HO Hat HX

/-! ## Filling a chunk of the send buffer -/

/-- A chunk of the device's block is written into the send buffer. -/
theorem step_fill (t : Fin 16) (ht : t.val < 6) {rv ar rdy : List (Fin 16)} {l : List (Fin 6)} {sd gr fl hm dn : List (Fin 16)} {j : Fin 6} (hj : j = ⟨t.val, ht⟩)
    {O : CellTallies nD τ sig Unit} {X : sProp 𝕄} {off so : Fin 2 → ℕ} {h1 h2 h3} (ho : off = rowOf (rch t c)) (hso : so = ![64 * t.val, 0])
    {P : Chk F → Chk F} (hP : ∀ p, P p = p) {hl hl' hx hmm} {k : PUnit.{1} → Pg F} {Q : PUnit.{1} → sProp 𝕄}
    (hk : St A R G c κ ⟨rv, ar, t :: rdy, l, sd, gr, fl, hm, dn⟩ O X ⊢ WP c (k ⟨⟩) Q) :
    St A R G c κ ⟨rv, ar, rdy, j :: l, sd, gr, fl, hm, dn⟩ O X ⊢ WP c (.op (.load pM (Rect.unit (s := S1024x1024) off S64x1024.size h1).toLoadRect hl) fun v =>
      .op (.load sM (Rect.unit (s := S384x1024) so S64x1024.size h2).toLoadRect hl') fun _ =>
      .op (.store sM (Rect.unit (s := S384x1024) so S64x1024.size h3) (P v) Finset.univ hx hmm) k) Q := by
  subst hj hso
  have ho' : off = rowOf (dch t c) := ho.trans (by rw [dch_srcOf t c]; unfold srcOf; rw [if_pos ht])
  subst ho'
  have hpay : sendPay A t c = sPts c ⟨t.val, ht⟩ (sndB A c) := dif_pos ht
  unfold St
  show iprop(Ctx A κ ∗ each rv (pend c) ∗ each ar (arr A c) ∗ each rdy (fun t => sendPay A t c) ∗ (raw c ⟨t.val, ht⟩ ∗ each l (raw c)) ∗ each sd (todo c)
    ∗ each gr (grant c) ∗ each fl (flying c) ∗ each hm (home A c) ∗ outs A R G c dn ∗ ins A R G c
    ∗ (∃ W, owes (c : Thread nD τ) O W) ∗ X) ⊢ _
  iintro ⟨HC, Hrv, Har, Hrdy, ⟨Hraw, Hrw⟩, Hsd, Hgr, Hfl, Hhm, Hout, Hin, HO, HX⟩
  unfold ins raw
  icases Hin with ⟨Hp, Hr, Hg⟩
  icases Hraw with ⟨%f, Hs⟩
  have hset : (sM.access (sndR ⟨t.val, ht⟩) : View sig .tc _ _ _).set = (sndR ⟨t.val, ht⟩).set := View.set_slice_whole _ _
  iapply (wp_load_rect 𝒱₀ (c : Thread nD τ) none Set.univ (m := pM) (r := chunkR (dch t c)) (q := fullShare) (f := A c) (Finset.subset_univ _)) $$ Hp
  iintro Hp
  iapply (wp_load_rect 𝒱₀ (c : Thread nD τ) none Set.univ (m := sM) (r := sndR ⟨t.val, ht⟩) (q := fullShare) (f := f) (le_of_eq hset)) $$ Hs
  iintro Hs
  iapply (wp_store 𝒱₀ (c : Thread nD τ) none Set.univ (m := sM) (r := sndR ⟨t.val, ht⟩) (f := f) (le_of_eq hset)) $$ Hs
  iintro Hs
  rw [hP]
  ihave Hs := (Entails.of_eq ((pointsTo_congr fun i hi => by
      obtain ⟨x, rfl⟩ : ∃ x, (sndR ⟨t.val, ht⟩).emb x = i := by
        rw [← Rect.map_emb_univ] at hi
        obtain ⟨x, -, e⟩ := Finset.mem_map.mp hi
        exact ⟨x, e⟩
      refine (View.write_emb_of_mem (v := (sM.access (sndR ⟨t.val, ht⟩))) (Val := Elt F) f _ (Finset.mem_univ x)).trans ?_
      exact (congrFun (rdS_sndB A c t ht) x).symm).trans hpay.symm)) $$ Hs
  ihave Hrdy : each (t :: rdy) (fun t => sendPay A t c) $$ [Hrdy Hs]
  · iapply (each_push t rdy (fun t => sendPay A t c)); iframe
  iapply hk
  unfold St ins raw
  iframe HC Hrv Har Hrdy Hrw Hsd Hgr Hfl Hhm Hout Hp Hr Hg HO HX

end Steps

end Cert.Bidir
-- ==== Proof.Compute.lean ====
/-
  The computation of one 64-row chunk of the result, and how a landing is split between the device and the copies that
  pass it on.
-/
module

public import proofs.«01_k».proof.Proof.Steps

@[expose] public section

noncomputable section

namespace Cert.Bidir

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (A R : Dev nD → Blk F) (G : Dev nD → Gam F) (c : Dev nD) (κ : GSem nD τ sig → ℕ)

/-! ## The computation of a chunk of the result -/

/-- A chunk of the result written: right there, and still right where it was. -/
theorem outs_step (t : Fin 16) (l : List (Fin 16)) (f : Blk F) (hf : ∀ u ∈ l, ∀ i ∈ (chunkR (rch u c)).set, f i = outB A R G c i)
    (w : Chk F) (hw : w = rd (outB A R G c) (rch t c)) :
    ∀ u ∈ t :: l, ∀ i ∈ (chunkR (rch u c)).set,
      (uM.access (chunkR (rch t c)) : View sig .tc _ _ _).write (Elt F) f w Finset.univ i = outB A R G c i := by
  intro u hu i hi
  by_cases e : u = t
  · subst e
    obtain ⟨x, rfl⟩ := exists_emb hi
    refine (View.write_emb_of_mem (v := (uM.access (chunkR (rch u c)))) (Val := Elt F) f w (Finset.mem_univ x)).trans ?_
    rw [hw]; rfl
  · have hl : u ∈ l := (List.mem_cons.mp hu).resolve_left e
    refine Eq.trans (View.write_of_not_mem (v := (uM.access (chunkR (rch t c)))) (Val := Elt F) f w Finset.univ ?_) (hf u hl i hi)
    have hset : (uM.access (chunkR (rch t c)) : View sig .tc _ _ _).set = (chunkR (rch t c)).set := View.set_slice_whole _ _
    rw [View.setOn_univ, hset]
    exact Finset.disjoint_left.mp (chunkR_disjoint fun h => e (rch_inj c h)) hi

set_option maxHeartbeats 1000000 in
/-- The four loads of a chunk's inputs, the load nothing uses, the store of what is computed from the four. -/
theorem step_compute (t : Fin 16) {rv ar rdy : List (Fin 16)} {rw_ : List (Fin 6)} {sd gr fl hm dn : List (Fin 16)} (ht : t ∈ ar) {O : CellTallies nD τ sig Unit} {X : sProp 𝕄} {off : Fin 2 → ℕ} {h1 h2 h3 h4 h5 hg} (ho : off = rowOf (rch t c))
    {P : Chk F → Chk F → Chk F → Gam F → Chk F} (hP : ∀ p o r g, P p o r g = cmp p o r g) {l1 l2 l3 l4 l5 hx hmm} {k : PUnit.{1} → Pg F} {Q : PUnit.{1} → sProp 𝕄}
    (hk : St A R G c κ ⟨rv, ar, rdy, rw_, sd, gr, fl, hm, t :: dn⟩ O X ⊢ WP c (k ⟨⟩) Q) :
    St A R G c κ ⟨rv, ar, rdy, rw_, sd, gr, fl, hm, dn⟩ O X ⊢ WP c (.op (.load pM (Rect.unit (s := S1024x1024) off S64x1024.size h1).toLoadRect l1) fun p =>
      .op (.load oM (Rect.unit (s := S1024x1024) off S64x1024.size h2).toLoadRect l2) fun o =>
      .op (.load rM (Rect.unit (s := S1024x1024) off S64x1024.size h3).toLoadRect l3) fun r =>
      .op (.load gM (Rect.unit (s := S1x1024) ![0, 0] S1x1024.size hg).toLoadRect l4) fun g =>
      .op (.load uM (Rect.unit (s := S1024x1024) off S64x1024.size h4).toLoadRect l5) fun _ =>
      .op (.store uM (Rect.unit (s := S1024x1024) off S64x1024.size h5) (P p o r g) Finset.univ hx hmm) k) Q := by
  subst ho
  unfold St outs ins
  iintro ⟨HC, Hrv, Har, Hrdy, Hrw, Hsd, Hgr, Hfl, Hhm, ⟨%f, Hu, %hf⟩, ⟨Hp, Hr, Hg⟩, HO, HX⟩
  ihave Har := (each_borrow ar (arr A c) t ht) $$ Har
  unfold arr
  icases Har with ⟨⟨Hat, Ho⟩, Har⟩
  have hset : (oM.access (chunkR (rch t c)) : View sig .tc _ _ _).set = (chunkR (rch t c)).set := View.set_slice_whole _ _
  iapply (wp_load_rect 𝒱₀ (c : Thread nD τ) none Set.univ (m := pM) (r := chunkR (rch t c)) (q := fullShare) (f := A c) (Finset.subset_univ _)) $$ Hp
  iintro Hp
  iapply (wp_load_rect 𝒱₀ (c : Thread nD τ) none Set.univ (m := oM) (r := chunkR (rch t c)) (q := kept t) (f := oth A c) (le_of_eq hset)) $$ Ho
  iintro Ho
  iapply (wp_load_rect 𝒱₀ (c : Thread nD τ) none Set.univ (m := rM) (r := chunkR (rch t c)) (q := fullShare) (f := R c) (Finset.subset_univ _)) $$ Hr
  iintro Hr
  iapply (wp_load 𝒱₀ (c : Thread nD τ) none Set.univ (m := gM) (q := fullShare) (f := G c) (Finset.subset_univ _)) $$ Hg
  iintro Hg
  iapply (wp_load_rect 𝒱₀ (c : Thread nD τ) none Set.univ (m := uM) (r := chunkR (rch t c)) (q := fullShare) (f := f) (Finset.subset_univ _)) $$ Hu
  iintro Hu
  iapply (wp_store 𝒱₀ (c : Thread nD τ) none Set.univ (m := uM) (r := chunkR (rch t c)) (f := f) (Finset.subset_univ _)) $$ Hu
  iintro Hu
  have hgam : gM.view.readAt (Elt F) (Rect.unit (s := S1x1024) ![0, 0] S1x1024.size hg).toLoadRect (G c) = G c :=
    Memref.readAt_unit_zero (Elt F) cc0_stg2_0 (by funext a; match a with | ⟨0, _⟩ => rfl | ⟨1, _⟩ => rfl) hg (G c)
  have hv : P ((pM.access (chunkR (rch t c))).read (Elt F) (A c)) ((oM.access (chunkR (rch t c))).read (Elt F) (oth A c))
      ((rM.access (chunkR (rch t c))).read (Elt F) (R c)) (gM.view.readAt (Elt F) (Rect.unit (s := S1x1024) ![0, 0] S1x1024.size hg).toLoadRect (G c))
      = rd (outB A R G c) (rch t c) := by
    rw [hP, hgam, rd_outB]; rfl
  iapply hk
  unfold St outs ins arr
  isplitl [HC]; · iexact HC
  isplitl [Hrv]; · iexact Hrv
  isplitl [Har Hat Ho]; · iapply Har; isplitl [Hat]; · iexact Hat
                          iexact Ho
  isplitl [Hrdy]; · iexact Hrdy
  isplitl [Hrw]; · iexact Hrw
  isplitl [Hsd]; · iexact Hsd
  isplitl [Hgr]; · iexact Hgr
  isplitl [Hfl]; · iexact Hfl
  isplitl [Hhm]; · iexact Hhm
  isplitl [Hu]
  · iexists _
    isplitl [Hu]; · iexact Hu
    ipureintro
    exact outs_step A R G c t dn f hf _ hv
  isplitl [Hp Hr Hg]
  · isplitl [Hp]; · iexact Hp
    isplitl [Hr]; · iexact Hr
    iexact Hg
  isplitl [HO]; · iexact HO
  iexact HX

/-! ## What a landing is split into -/

/-- A share of a chunk is its two halves. -/
theorem share_halves (q : PosShare TreeShare) (k : Fin 16) (f : Blk F) :
    (oPts c k q f : sProp 𝕄) ⊣⊢ iprop(oPts c k q.left f ∗ oPts c k q.right f) := pointsTo_share (PosShare.mem_left_op_right q)

/-- The rows a copy `u ≥ 6` is lent, at the landing it passes on. -/
theorem sendPay_fwd (u : Fin 16) (hu : 6 ≤ u.val) : (sendPay A u c : sProp 𝕄) = oPts c (rch (srcOf u) c) (lent u) (oth A c) := by
  unfold sendPay; rw [dif_neg (by omega), dch_srcOf u c]

/-- A landing passed on twice: half is kept, a quarter lent to each copy. -/
theorem split_two (t u v : Fin 16) (hu : 6 ≤ u.val) (hv : 6 ≤ v.val) (eu : srcOf u = t) (ev : srcOf v = t) (kt : kept t = fullShare.left)
    (lu : lent u = fullShare.right.left) (lv : lent v = fullShare.right.right) :
    (recvPay A t c : sProp 𝕄) ⊣⊢ iprop(oPts c (rch t c) (kept t) (oth A c) ∗ each [u, v] (fun u => sendPay A u c)) := by
  have e : (each [u, v] (fun u => sendPay A u c) : sProp 𝕄) = iprop(oPts c (rch t c) fullShare.right.left (oth A c) ∗ oPts c (rch t c) fullShare.right.right (oth A c) ∗ emp) := by
    show iprop(sendPay A u c ∗ sendPay A v c ∗ emp) = _
    rw [sendPay_fwd A c u hu, sendPay_fwd A c v hv, eu, ev, lu, lv]
  rw [e, kt]
  unfold recvPay
  constructor
  · iintro H
    ihave H := (share_halves c fullShare (rch t c) (oth A c)).1 $$ H
    icases H with ⟨Hl, H⟩
    ihave H := (share_halves c fullShare.right (rch t c) (oth A c)).1 $$ H
    icases H with ⟨Hm, Hr⟩
    iframe
  · iintro ⟨Hl, Hm, Hr, -⟩
    iapply (share_halves c fullShare (rch t c) (oth A c)).2
    isplitl [Hl]; · iexact Hl
    iapply (share_halves c fullShare.right (rch t c) (oth A c)).2
    isplitl [Hm]; · iexact Hm
    iexact Hr

/-- A landing passed on once: half is kept, half lent. -/
theorem split_one (t u : Fin 16) (hu : 6 ≤ u.val) (eu : srcOf u = t) (kt : kept t = fullShare.left) (lu : lent u = fullShare.right) :
    (recvPay A t c : sProp 𝕄) ⊣⊢ iprop(oPts c (rch t c) (kept t) (oth A c) ∗ each [u] (fun u => sendPay A u c)) := by
  have e : (each [u] (fun u => sendPay A u c) : sProp 𝕄) = iprop(oPts c (rch t c) fullShare.right (oth A c) ∗ emp) := by
    show iprop(sendPay A u c ∗ emp) = _
    rw [sendPay_fwd A c u hu, eu, lu]
  rw [e, kt]
  unfold recvPay
  constructor
  · iintro H
    ihave H := (share_halves c fullShare (rch t c) (oth A c)).1 $$ H
    icases H with ⟨Hl, Hr⟩
    iframe
  · iintro ⟨Hl, Hr, -⟩
    iapply (share_halves c fullShare (rch t c) (oth A c)).2
    isplitl [Hl]; · iexact Hl
    iexact Hr

/-- A landing not passed on. -/
theorem split_none (t : Fin 16) (kt : kept t = fullShare) :
    (recvPay A t c : sProp 𝕄) ⊣⊢ iprop(oPts c (rch t c) (kept t) (oth A c) ∗ each [] (fun u => sendPay A u c)) := by
  rw [kt]
  unfold recvPay
  constructor
  · iintro H
    isplitl [H]; · iexact H
    iempintro
  · iintro ⟨H, -⟩; iexact H

/-- The copies that pass landing `t` on. -/
def lends (t : Fin 16) : List (Fin 16) :=
  match t with
  | 0 => [6, 10] | 1 => [7, 11] | 2 => [8, 12] | 3 => [9, 13] | 10 => [14] | 7 => [15] | _ => []

/-- A landing is its kept part and the parts lent. -/
theorem split_recv (t : Fin 16) :
    (recvPay A t c : sProp 𝕄) ⊣⊢ iprop(oPts c (rch t c) (kept t) (oth A c) ∗ each (lends t) (fun u => sendPay A u c)) :=
  match t with
  | 0 => split_two A c 0 6 10 (by decide) (by decide) rfl rfl rfl rfl rfl
  | 1 => split_two A c 1 7 11 (by decide) (by decide) rfl rfl rfl rfl rfl
  | 2 => split_two A c 2 8 12 (by decide) (by decide) rfl rfl rfl rfl rfl
  | 3 => split_two A c 3 9 13 (by decide) (by decide) rfl rfl rfl rfl rfl
  | 10 => split_one A c 10 14 (by decide) rfl rfl rfl
  | 7 => split_one A c 7 15 (by decide) rfl rfl rfl
  | 4 => split_none A c 4 rfl
  | 5 => split_none A c 5 rfl
  | 6 => split_none A c 6 rfl
  | 8 => split_none A c 8 rfl
  | 9 => split_none A c 9 rfl
  | 11 => split_none A c 11 rfl
  | 12 => split_none A c 12 rfl
  | 13 => split_none A c 13 rfl
  | 14 => split_none A c 14 rfl
  | 15 => split_none A c 15 rfl
  | ⟨_ + 16, h⟩ => absurd h (by omega)

end Cert.Bidir
-- ==== Proof.Body.lean ====
/-
  The body of the kernel, run on one device: the whole list of its operations, each by its lemma.
-/
module

public import proofs.«01_k».proof.Proof.Compute

@[expose] public section

noncomputable section

namespace Cert.Bidir

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (A R : Dev nD → Blk F) (G : Dev nD → Gam F) (c : Dev nD) (κ : GSem nD τ sig → ℕ)

/-- The kernel's body on the buffers it is launched with. -/
abbrev bodyK : Pg F :=
  cc0_body pM (Memref.isWhole_whole _) rM (Memref.isWhole_whole _) gM (Memref.isWhole_whole _) uM (Memref.isWhole_whole _) oM (Memref.isWhole_whole _) sM (Memref.isWhole_whole _)
    cc0_scratch2 cc0_scratch3 cc0_scratch4 cc0_scratch5 cc0_scratch6 cc0_scratch7 cc0_scratch8 cc0_scratch9 cc0_scratch10 cc0_scratch11 cc0_scratch12

/-- What is aside may be rearranged. -/
theorem St_aside {σ : Phase} {O : CellTallies nD τ sig Unit} {X X' : sProp 𝕄} (h : X ⊢ X') : St A R G c κ σ O X ⊢ St A R G c κ σ O X' := by
  unfold St
  iintro ⟨HC, Hrv, Har, Hrdy, Hrw, Hsd, Hgr, Hfl, Hhm, Hout, Hin, HO, HX⟩
  ihave HX := h $$ HX
  iframe

/-- The copies on their way may be taken in any order. -/
theorem St_flying {rv ar rdy : List (Fin 16)} {rw_ : List (Fin 6)} {sd gr fl l hm dn : List (Fin 16)} {O : CellTallies nD τ sig Unit} {X : sProp 𝕄} (h : fl.Perm l) :
    St A R G c κ ⟨rv, ar, rdy, rw_, sd, gr, fl, hm, dn⟩ O X ⊢ St A R G c κ ⟨rv, ar, rdy, rw_, sd, gr, l, hm, dn⟩ O X := by
  unfold St
  exact Entails.of_eq (by rw [each_perm h])

/-- The second of three conjuncts comes first. -/
theorem sep_left (P P' P'' : sProp 𝕄) : iprop(P ∗ P' ∗ P'') = iprop(P' ∗ P ∗ P'') := by rw [← sep_shift, sep_swap P, sep_shift]

/-- What the barrier hands over, in the order it is used. -/
theorem grants_bar : bigSep ((RD A).duties (barCell c) 0 \ ∅) (fun d => (RD A).payload (barCell c) 0 d)
    ⊢ each [6, 10, 7, 11, 8, 12, 9, 13, 14, 15] (grant (F := F) c) := by
  rw [rest_bar, each_perm (by decide : [6, 10, 7, 11, 8, 12, 9, 13, 14, 15].Perm (xList ++ yList)), each_append]
  iintro ⟨Hx, Hy, -⟩
  iframe

/-- What a device pays its three handshakes with, and what it is to wait on them with. -/
def shakes : sProp 𝕄 :=
  iprop((dutyTok ER (barCell (flipX c)) 0 false ∗ (RD A).payload (barCell (flipX c)) 0 false)
    ∗ (dutyTok ER (barCell (flipY c)) 0 true ∗ (RD A).payload (barCell (flipY c)) 0 true)
    ∗ (dutyTok ER (zCell (flipZ c)) 0 false ∗ (RD A).payload (zCell (flipZ c)) 0 false)
    ∗ (atPos ER (zCell c) 0 ∅ 0 ∗ cred (tallyAt (zCell c) () 1)) ∗ (atPos ER (barCell c) 0 ∅ 0 ∗ cred (tallyAt (barCell c) () 2)) ∗ emp)

/-- The order in which the landings are awaited. -/
abbrev rorder : List (Fin 16) := [0, 1, 2, 3, 10, 6, 7, 11, 8, 12, 9, 13, 4, 5, 14, 15]

/-- Before the first operation: everything to do. After the last: everything landed, sent and computed. -/
abbrev σ₀ : Phase := ⟨rorder, [], [], [0, 1, 2, 3, 4, 5], order, [], [], [], []⟩
/-- Everything done. -/
abbrev σ₁ : Phase := ⟨[], rorder.reverse, [], [], [], [], [], order.reverse, rorder.reverse⟩

set_option maxRecDepth 65536 in
set_option maxHeartbeats 4000000 in
/-- The body, from all to do to all done: one step per operation. -/
theorem body_run : St A R G c κ σ₀ (O₀ c) (shakes A c) ⊢ WP c (bodyK (F := F)) (fun _ => St A R G c κ σ₁ 0 iprop(atPos ER (barCell c) 1 ∅ 0 ∗ atPos ER (zCell c) 1 ∅ 0 ∗ emp)) := by
  unfold bodyK shakes
  rw [cc0_body_eq_skeleton]
  unfold cc0_body_skel
  -- the parts of the program, laid out as one list of operations
  simp only [k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, semSignalWord, semWaitWord, Prog.lift, Prog.bind_op, Prog.bind_ret, Prog.pure_eq_ret, wp_deviceId]
  refine step_signal A R G c κ _ (dev1_eq c) (.inl ()) rfl false (Finset.mem_univ _) ?_
  refine step_signal A R G c κ _ (dev2_eq c) (.inl ()) rfl true (Finset.mem_univ _) ?_
  refine step_signal A R G c κ _ (dev3_eq c) (.inr (.inl ())) rfl false (Finset.mem_singleton_self _) ?_
  refine step_fill A R G c κ 0 (by decide) rfl (off1_row c 0 0 rfl) rfl pay1_eq ?_
  refine step_shake A R G c κ (.inr (.inl ())) rfl 1 (expect_z A c) zList (Entails.of_eq (rest_z A c)) (by decide) ?_
  refine (St_aside A R G c κ (Entails.of_eq (sep_left _ _ _))).trans ?_
  refine step_z A R G c κ 0 (by decide) (dev4_eq c) rfl (off2_row c 0 0 rfl) rfl rfl ?_
  refine step_fill A R G c κ 1 (by decide) rfl (off1_row c 1 1 rfl) rfl pay1_eq ?_
  refine step_z A R G c κ 1 (by decide) (dev5_eq c) rfl (off2_row c 1 1 rfl) rfl rfl ?_
  refine step_fill A R G c κ 2 (by decide) rfl (off1_row c 2 2 rfl) rfl pay1_eq ?_
  refine step_z A R G c κ 2 (by decide) (dev6_eq c) rfl (off2_row c 2 2 rfl) rfl rfl ?_
  refine step_fill A R G c κ 3 (by decide) rfl (off1_row c 3 3 rfl) rfl pay1_eq ?_
  refine step_z A R G c κ 3 (by decide) (dev7_eq c) rfl (off2_row c 3 3 rfl) rfl rfl ?_
  refine step_fill A R G c κ 4 (by decide) rfl (off3_row c 1 4 rfl) rfl pay1_eq ?_
  refine step_z A R G c κ 4 (by decide) (dev8_eq c) rfl (off4_row c 1 4 rfl) rfl rfl ?_
  refine step_fill A R G c κ 5 (by decide) rfl (off3_row c 2 5 rfl) rfl pay1_eq ?_
  refine step_z A R G c κ 5 (by decide) (dev9_eq c) rfl (off4_row c 2 5 rfl) rfl rfl ?_
  refine step_shake A R G c κ (.inl ()) rfl 2 (expect_bar A c) [6, 10, 7, 11, 8, 12, 9, 13, 14, 15] (grants_bar A c) (by decide) ?_
  refine step_recv A R G c κ 0 (lends 0) (split_recv A c 0).1 (by decide) rfl (by rfl) ?_
  refine step_fwd A R G c κ 6 (by decide) (dev10_eq c) (off2_row c 0 0 rfl) rfl rfl ?_
  refine step_fwd A R G c κ 10 (by decide) (dev11_eq c) (off2_row c 0 0 rfl) rfl rfl ?_
  refine step_compute A R G c κ 0 (by decide) (off1_row c 0 0 rfl) (fun _ _ _ _ => rfl) ?_
  refine step_recv A R G c κ 1 (lends 1) (split_recv A c 1).1 (by decide) rfl (by rfl) ?_
  refine step_fwd A R G c κ 7 (by decide) (dev12_eq c) (off2_row c 1 1 rfl) rfl rfl ?_
  refine step_fwd A R G c κ 11 (by decide) (dev13_eq c) (off2_row c 1 1 rfl) rfl rfl ?_
  refine step_compute A R G c κ 1 (by decide) (off1_row c 1 1 rfl) (fun _ _ _ _ => rfl) ?_
  refine step_recv A R G c κ 2 (lends 2) (split_recv A c 2).1 (by decide) rfl (by rfl) ?_
  refine step_fwd A R G c κ 8 (by decide) (dev14_eq c) (off2_row c 2 2 rfl) rfl rfl ?_
  refine step_fwd A R G c κ 12 (by decide) (dev15_eq c) (off2_row c 2 2 rfl) rfl rfl ?_
  refine step_compute A R G c κ 2 (by decide) (off1_row c 2 2 rfl) (fun _ _ _ _ => rfl) ?_
  refine step_recv A R G c κ 3 (lends 3) (split_recv A c 3).1 (by decide) rfl (by rfl) ?_
  refine step_fwd A R G c κ 9 (by decide) (dev16_eq c) (off2_row c 3 3 rfl) rfl rfl ?_
  refine step_fwd A R G c κ 13 (by decide) (dev17_eq c) (off2_row c 3 3 rfl) rfl rfl ?_
  refine step_compute A R G c κ 3 (by decide) (off1_row c 3 3 rfl) (fun _ _ _ _ => rfl) ?_
  refine step_recv A R G c κ 10 (lends 10) (split_recv A c 10).1 (by decide) rfl (by rfl) ?_
  refine step_fwd A R G c κ 14 (by decide) (dev18_eq c) (off5_row c) rfl rfl ?_
  refine step_compute A R G c κ 10 (by decide) (off6_row c) (fun _ _ _ _ => rfl) ?_
  refine step_recv A R G c κ 6 (lends 6) (split_recv A c 6).1 (by decide) rfl (by rfl) ?_
  refine step_compute A R G c κ 6 (by decide) (off8_row c) (fun _ _ _ _ => rfl) ?_
  refine step_recv A R G c κ 7 (lends 7) (split_recv A c 7).1 (by decide) rfl (by rfl) ?_
  refine step_fwd A R G c κ 15 (by decide) (dev19_eq c) (off9_row c 0 7 rfl) rfl rfl ?_
  refine step_compute A R G c κ 7 (by decide) (off10_row c 0 7 rfl) (fun _ _ _ _ => rfl) ?_
  refine step_recv A R G c κ 11 (lends 11) (split_recv A c 11).1 (by decide) rfl (by rfl) ?_
  refine step_compute A R G c κ 11 (by decide) (off12_row c 0 11 rfl) (fun _ _ _ _ => rfl) ?_
  refine step_recv A R G c κ 8 (lends 8) (split_recv A c 8).1 (by decide) rfl (by rfl) ?_
  refine step_compute A R G c κ 8 (by decide) (off10_row c 1 8 rfl) (fun _ _ _ _ => rfl) ?_
  refine step_recv A R G c κ 12 (lends 12) (split_recv A c 12).1 (by decide) rfl (by rfl) ?_
  refine step_compute A R G c κ 12 (by decide) (off12_row c 1 12 rfl) (fun _ _ _ _ => rfl) ?_
  refine step_recv A R G c κ 9 (lends 9) (split_recv A c 9).1 (by decide) rfl (by rfl) ?_
  refine step_compute A R G c κ 9 (by decide) (off10_row c 2 9 rfl) (fun _ _ _ _ => rfl) ?_
  refine step_recv A R G c κ 13 (lends 13) (split_recv A c 13).1 (by decide) rfl (by rfl) ?_
  refine step_compute A R G c κ 13 (by decide) (off12_row c 2 13 rfl) (fun _ _ _ _ => rfl) ?_
  refine step_recv A R G c κ 4 (lends 4) (split_recv A c 4).1 (by decide) rfl (by rfl) ?_
  refine step_compute A R G c κ 4 (by decide) (off3_row c 1 4 rfl) (fun _ _ _ _ => rfl) ?_
  refine step_recv A R G c κ 5 (lends 5) (split_recv A c 5).1 (by decide) rfl (by rfl) ?_
  refine step_compute A R G c κ 5 (by decide) (off3_row c 2 5 rfl) (fun _ _ _ _ => rfl) ?_
  refine step_recv A R G c κ 14 (lends 14) (split_recv A c 14).1 (by decide) rfl (by rfl) ?_
  refine step_compute A R G c κ 14 (by decide) (off14_row c) (fun _ _ _ _ => rfl) ?_
  refine step_recv A R G c κ 15 (lends 15) (split_recv A c 15).1 (by decide) rfl (by rfl) ?_
  refine step_compute A R G c κ 15 (by decide) (off3_row c 0 15 rfl) (fun _ _ _ _ => rfl) ?_
  refine (St_flying A R G c κ (l := order) (by decide)).trans ?_
  refine step_sent A R G c κ 0 rfl (by rfl) ?_
  refine step_sent A R G c κ 1 rfl (by rfl) ?_
  refine step_sent A R G c κ 2 rfl (by rfl) ?_
  refine step_sent A R G c κ 3 rfl (by rfl) ?_
  refine step_sent A R G c κ 4 rfl (by rfl) ?_
  refine step_sent A R G c κ 5 rfl (by rfl) ?_
  refine step_sent A R G c κ 6 rfl (by rfl) ?_
  refine step_sent A R G c κ 10 rfl (by rfl) ?_
  refine step_sent A R G c κ 7 rfl (by rfl) ?_
  refine step_sent A R G c κ 11 rfl (by rfl) ?_
  refine step_sent A R G c κ 8 rfl (by rfl) ?_
  refine step_sent A R G c κ 12 rfl (by rfl) ?_
  refine step_sent A R G c κ 9 rfl (by rfl) ?_
  refine step_sent A R G c κ 13 rfl (by rfl) ?_
  refine step_sent A R G c κ 14 rfl (by rfl) ?_
  refine step_sent A R G c κ 15 rfl (by rfl) ?_
  unfold WP
  rw [wp_ret]
  iintro H
  imodintro
  iexact H

end Cert.Bidir
-- ==== Proof.Ends.lean ====
/-
  The two ends of a device's run: from what it is launched with to the state before the first operation, and from the
  state after the last operation to what it leaves.
-/
module

public import Idealize.ShloMosaic.Lib.Rounds.Family
public import proofs.«01_k».proof.Proof.Body

@[expose] public section

noncomputable section

namespace Cert.Bidir

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (A R : Dev nD → Blk F) (G : Dev nD → Gam F) (c : Dev nD) (κ : GSem nD τ sig → ℕ)

/-! ## The buffers of the copies, whole and in chunks -/

/-- Conjunctions over a list: equal parts, weaker parts, parts in two pieces. -/
theorem each_congr {I : Type} (l : List I) {Φ Ψ : I → sProp 𝕄} (h : ∀ a ∈ l, Φ a = Ψ a) : each l Φ = each l Ψ := by
  induction l with
  | nil => rfl
  | cons a l ih =>
    show iprop(Φ a ∗ each l Φ) = iprop(Ψ a ∗ each l Ψ)
    rw [h a List.mem_cons_self, ih fun b hb => h b (List.mem_cons_of_mem _ hb)]

theorem each_mono {I : Type} (l : List I) {Φ Ψ : I → sProp 𝕄} (h : ∀ a, Φ a ⊢ Ψ a) : each l Φ ⊢ each l Ψ := by
  induction l with
  | nil => exact .rfl
  | cons a l ih =>
    show iprop(Φ a ∗ each l Φ) ⊢ iprop(Ψ a ∗ each l Ψ)
    exact Idealize.SL.BI.sep_mono (h a) ih

theorem each_sep {I : Type} (l : List I) (Φ Ψ : I → sProp 𝕄) : each l (fun a => iprop(Φ a ∗ Ψ a)) = iprop(each l Φ ∗ each l Ψ) := by
  rw [each_eq, each_eq, each_eq]
  induction l with
  | nil => exact (equiv_iff.mp BI.emp_sep).symm
  | cons a l ih =>
    rw [bigSepL_cons, bigSepL_cons, bigSepL_cons, ih]
    show iprop((Φ a ∗ Ψ a) ∗ bigSepL l Φ ∗ bigSepL l Ψ) = iprop((Φ a ∗ bigSepL l Φ) ∗ Ψ a ∗ bigSepL l Ψ)
    rw [sep_shift, sep_shift, ← sep_shift (Ψ a), sep_swap (Ψ a), sep_shift]

/-- All the copies, in order. -/
abbrev copies : List (Fin 16) := [0, 1, 2, 3, 4, 5, 6, 7, 8, 9, 10, 11, 12, 13, 14, 15]

/-- A conjunction over all copies, along that list. -/
theorem each_copies (Φ : Fin 16 → sProp 𝕄) : bigSep Finset.univ Φ = each copies Φ := each_univ copies (by decide) (by decide) Φ

/-- The receive buffer is its sixteen chunks, one per landing. -/
theorem o_chunks (f : Blk F) : (((c : Thread nD τ).loc cc0_scratch0) ↦{fullShare} f : sProp 𝕄) = each copies (fun t => oPts c (rch t c) fullShare f) := by
  have h : _ = (_ : sProp 𝕄) := pointsTo_biUnion (ℓ := (c : Thread nD τ).loc cc0_scratch0) (q := fullShare) (f := f) Finset.univ (fun t => (chunkR (rch t c)).set) (fun t _ u _ h => chunkR_disjoint fun e => h (rch_inj c e))
  rw [chunkR_cover] at h
  rw [← each_copies]
  exact h

/-- The send buffer is its six chunks. -/
theorem s_chunks (f : Snd F) : (((c : Thread nD τ).loc cc0_scratch1) ↦{fullShare} f : sProp 𝕄) = each [0, 1, 2, 3, 4, 5] (fun j => sPts c j f) := by
  have h : _ = (_ : sProp 𝕄) := pointsTo_biUnion (ℓ := (c : Thread nD τ).loc cc0_scratch1) (q := fullShare) (f := f) Finset.univ (fun j => (sndR j).set) (fun j _ k _ h => sndR_disjoint h)
  rw [sndR_cover] at h
  rw [← each_univ [0, 1, 2, 3, 4, 5] (by decide) (by decide)]
  exact h

/-! ## Before the first operation -/

/-- A landing's chunk is what the copy that lands there needs. -/
theorem grant_back (t : Fin 16) (f : Blk F) : (oPts c (rch t c) fullShare f : sProp 𝕄) ⊢ grant (peer t c) t := by
  unfold grant
  rw [peer_peer]
  iintro H
  iexists f; iexact H

/-- Where the copies along each axis go. -/
theorem peer_x : ∀ c : Dev nD, ∀ t ∈ xList, peer t c = flipX c := by decide
theorem peer_y : ∀ c : Dev nD, ∀ t ∈ yList, peer t c = flipY c := by decide
theorem peer_z : ∀ c : Dev nD, ∀ t ∈ zList, peer t c = flipZ c := by decide

/-- The handshakes are paid with the receive buffer. -/
theorem pay_shakes (f : Blk F) : (((c : Thread nD τ).loc cc0_scratch0) ↦{fullShare} f : sProp 𝕄)
    ⊢ iprop((RD A).payload (barCell (flipX c)) 0 false ∗ (RD A).payload (barCell (flipY c)) 0 true ∗ (RD A).payload (zCell (flipZ c)) 0 false) := by
  rw [o_chunks, pay_bar, pay_bar, pay_z, each_perm (by decide : copies.Perm (xList ++ (yList ++ zList))), each_append, each_append]
  show _ ⊢ iprop(each xList (grant (flipX c)) ∗ each yList (grant (flipY c)) ∗ each zList (grant (flipZ c)))
  refine Idealize.SL.BI.sep_mono ((each_mono xList (fun t => grant_back c t f)).trans (Entails.of_eq (each_congr _ ?_)))
    (Idealize.SL.BI.sep_mono ((each_mono yList (fun t => grant_back c t f)).trans (Entails.of_eq (each_congr _ ?_)))
      ((each_mono zList (fun t => grant_back c t f)).trans (Entails.of_eq (each_congr _ ?_))))
  · intro t ht; rw [peer_x c t ht]
  · intro t ht; rw [peer_y c t ht]
  · intro t ht; rw [peer_z c t ht]

/-- A device's own part of the protocol: where it stands at its semaphores, the units it will find there, the duties it pays. -/
def mine : sProp 𝕄 :=
  iprop((atPos ER (barCell c) 0 ∅ 0 ∗ cred (tallyAt (barCell c) () 2)) ∗ (atPos ER (zCell c) 0 ∅ 0 ∗ cred (tallyAt (zCell c) () 1))
    ∗ (dutyTok ER (barCell (flipX c)) 0 false ∗ dutyTok ER (barCell (flipY c)) 0 true ∗ dutyTok ER (zCell (flipZ c)) 0 false)
    ∗ (bigSep Finset.univ fun t => pend (F := F) c t) ∗ (bigSep Finset.univ fun t => todo (F := F) c t))

/-- What a device holds before its first operation. -/
theorem enter : iprop(Ctx A κ ∗ mine c ∗ (∃ f, ((c : Thread nD τ).loc cc0_scratch0) ↦{fullShare} f) ∗ (∃ f, ((c : Thread nD τ).loc cc0_scratch1) ↦{fullShare} f)
      ∗ (∃ f, ((c : Thread nD τ).loc cc0_stg3_0) ↦{fullShare} f) ∗ ins A R G c ∗ (∃ W, owes (c : Thread nD τ) (O₀ c) W))
    ⊢ St A R G c κ σ₀ (O₀ c) (shakes A c) := by
  unfold St mine shakes outs
  rw [each_univ rorder (by decide) (by decide), each_univ order (by decide) (by decide)]
  iintro ⟨HC, ⟨⟨Hb, Hbc⟩, ⟨Hz, Hzc⟩, ⟨Hx, Hy, Hzt⟩, Hp, Ht⟩, ⟨%fo, Ho⟩, ⟨%fs, Hs⟩, ⟨%fu, Hu⟩, Hin, HW⟩
  ihave Hpay := (pay_shakes A c fo) $$ Ho
  icases Hpay with ⟨Hpx, Hpy, Hpz⟩
  ihave Hs := (Entails.of_eq (s_chunks c fs)) $$ Hs
  isplitl [HC]; · iexact HC
  isplitl [Hp]; · iexact Hp
  isplitr; · iempintro
  isplitr; · iempintro
  isplitl [Hs]
  · iapply (each_mono [0, 1, 2, 3, 4, 5] (fun j => show (sPts c j fs : sProp 𝕄) ⊢ raw c j from by unfold raw; iintro H; iexists fs; iexact H)); iexact Hs
  isplitl [Ht]; · iexact Ht
  isplitr; · iempintro
  isplitr; · iempintro
  isplitr; · iempintro
  isplitl [Hu]
  · iexists fu
    isplitl [Hu]; · iexact Hu
    ipureintro
    exact fun t ht => absurd ht List.not_mem_nil
  iframe

/-! ## After the last operation -/

/-- The landings, whole again. -/
theorem regain (l : List (Fin 16)) : iprop(each l (fun t => oPts c (rch t c) (kept t) (oth A c)) ∗ each (l.flatMap lends) (fun u => sendPay A u c)) ⊢ each l (fun t => recvPay A t c) := by
  induction l with
  | nil => iintro ⟨-, -⟩; iempintro
  | cons t l ih =>
    rw [List.flatMap_cons, each_append]
    show iprop((oPts c (rch t c) (kept t) (oth A c) ∗ each l (fun t => oPts c (rch t c) (kept t) (oth A c))) ∗ each (lends t) (fun u => sendPay A u c) ∗ each (l.flatMap lends) (fun u => sendPay A u c))
      ⊢ iprop(recvPay A t c ∗ each l (fun t => recvPay A t c))
    iintro ⟨⟨H, Hl⟩, Hs, Hsl⟩
    isplitl [H Hs]
    · iapply (split_recv A c t).2
      isplitl [H]; · iexact H
      iexact Hs
    · iapply ih
      isplitl [Hl]; · iexact Hl
      iexact Hsl

/-- Both buffers of the copies, from the landings kept and the rows back from the copies. -/
theorem buffers_back : iprop(each copies (fun t => oPts c (rch t c) (kept t) (oth A c)) ∗ each copies (fun t => sendPay A t c))
    ⊢ iprop((((c : Thread nD τ).loc cc0_scratch0) ↦{fullShare} oth A c) ∗ (((c : Thread nD τ).loc cc0_scratch1) ↦{fullShare} sndB A c)) := by
  rw [o_chunks, s_chunks, each_perm (by decide : copies.Perm (zList ++ copies.flatMap lends)) (fun t => sendPay A t c), each_append]
  iintro ⟨Hk, Hz, Hl⟩
  isplitl [Hk Hl]
  · iapply (regain A c copies)
    isplitl [Hk]; · iexact Hk
    iexact Hl
  · iexact Hz

/-- Every copy is waited for. -/
theorem rorder_all : ∀ t : Fin 16, t ∈ rorder.reverse := by decide

/-- The result's buffer, right on every chunk, is right. -/
theorem outs_all : outs A R G c rorder.reverse ⊢ (((c : Thread nD τ).loc cc0_stg3_0) ↦{fullShare} outB A R G c : sProp 𝕄) := by
  unfold outs
  iintro ⟨%f, H, %h⟩
  have e : f = outB A R G c := funext fun i => by
    have hi : i ∈ (Finset.univ : Finset (Fin 16)).biUnion (fun t => (chunkR (rch t c)).set) := by rw [chunkR_cover]; exact Finset.mem_univ i
    obtain ⟨t, _, ht⟩ := Finset.mem_biUnion.mp hi
    exact h t (rorder_all t) i ht
  rw [e]
  iexact H

/-- The protocol's semaphores of a device, one group after the other. -/
theorem each_cell (Φ : Cel → sProp 𝕄) :
    bigSep Finset.univ Φ = iprop(Φ (.inl ()) ∗ Φ (.inr (.inl ())) ∗ each copies (fun t => Φ (.inr (.inr (.inl t)))) ∗ each copies (fun t => Φ (.inr (.inr (.inr t))))) := by
  rw [bigSep_univ_sum, bigSep_univ_sum, bigSep_univ_sum, Finset.univ_unique, bigSep_singleton, bigSep_singleton, each_copies, each_copies]
  rfl

/-- Every cell of the device closed, its counter at zero. -/
theorem close_cells : iprop(Ctx A κ ∗ bigSep Finset.univ fun k : Cel => atPos ER (celAt (c, k)) 1 ∅ 0) ⊢ |={Set.univ}=> bigSep Finset.univ fun k : Cel => (semVal (celAt (c, k)) 0 : sProp 𝕄) := by
  refine BI.Entails.trans ?_ (cells_close ER (RD A) Finset.univ (fun k : Cel => celAt (c, k)) (fun k => κ (celAt (c, k))) (fun _ _ => Set.mem_univ _) (fun _ _ h => h) (fun _ => 1)
    fun k _ => duties_later A (celAt (c, k)))
  refine BI.Entails.trans ?_ (Entails.of_eq (bigSep_sep' _ _ _).symm)
  show _ ⊢ iprop((bigSep Finset.univ fun k : Cel => cellInv ER (RD A) (κ (celAt (c, k))) (celAt (c, k))) ∗ (bigSep Finset.univ fun k : Cel => atPos ER (celAt (c, k)) 1 ∅ 0))
  iintro ⟨HC, H⟩
  isplitl [HC]
  · iapply (BI.bigSep_intro_persistent (S := Finset.univ) fun (k : Cel) _ => ctx_inv A κ (c, k)); iexact HC
  · iexact H

/-- What a device holds after its last operation. -/
theorem leave : St A R G c κ σ₁ 0 iprop(atPos ER (barCell c) 1 ∅ 0 ∗ atPos ER (zCell c) 1 ∅ 0 ∗ emp)
    ⊢ |={Set.univ}=> iprop((bigSep Finset.univ fun k : Cel => (semVal (celAt (c, k)) 0 : sProp 𝕄))
      ∗ ((((c : Thread nD τ).loc cc0_scratch0) ↦{fullShare} oth A c) ∗ (((c : Thread nD τ).loc cc0_scratch1) ↦{fullShare} sndB A c))
      ∗ (((c : Thread nD τ).loc cc0_stg3_0) ↦{fullShare} outB A R G c) ∗ ins A R G c ∗ (∃ W, owes (c : Thread nD τ) 0 W)) := by
  unfold St
  rw [each_perm (by decide : rorder.reverse.Perm copies) (arr A c), each_perm (by decide : order.reverse.Perm copies) (home A c)]
  unfold arr home
  rw [each_sep, each_sep]
  iintro ⟨#HC, -, ⟨Hra, Hr⟩, -, -, -, -, -, ⟨Hsa, Hs⟩, Hout, Hin, HW, Hb, Hz, -⟩
  ihave Hbuf := (buffers_back A c) $$ [Hr Hs]
  · isplitl [Hr]; · iexact Hr
    iexact Hs
  ihave Hout := (outs_all A R G c) $$ Hout
  imod (close_cells A c κ) $$ [Hra Hsa Hb Hz] with Hv
  · isplitr; · iexact HC
    rw [each_cell]
    isplitl [Hb]; · iexact Hb
    isplitl [Hz]; · iexact Hz
    isplitl [Hra]; · iexact Hra
    iexact Hsa
  imodintro
  iframe

end Cert.Bidir
-- ==== Proof.Ghost.lean ====
/-
  What the launch deals out: every device's positions at its own semaphores, the tokens of the duties it pays, and the
  units the others owe it; and the levels of the waits of the staging.
-/
module

public import Idealize.ShloMosaic.Lib.Pipeline.Launch
public import Idealize.ShloMosaic.Lib.Pipeline.Kit
public import Idealize.ShloMosaic.Lib.Pipeline.CollectiveSegs
public import proofs.«01_k».proof.Proof.Gen.KernelIdeal.Launch
public import proofs.«01_k».proof.Proof.Gen.KernelIdeal.Points
public import proofs.«01_k».proof.Proof.Ends

@[expose] public section

noncomputable section

namespace Cert.Bidir

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## Tokens -/

/-- The duties of a device's own semaphores: one each, and the barrier's second. -/
abbrev tokAt (p : Dev nD × (Unit ⊕ Cel)) : GSem nD τ sig × ℕ × Bool :=
  match p.2 with
  | .inl _ => (barCell p.1, 0, true)
  | .inr k => (celAt (p.1, k), 0, false)

/-- Different duties have different tokens. -/
theorem tokAt_inj : Function.Injective tokAt := by
  rintro ⟨c, k⟩ ⟨d, l⟩ h
  have hb : (tokAt (c, k)).2.2 = (tokAt (d, l)).2.2 := congrArg (fun x => x.2.2) h
  have hc : (tokAt (c, k)).1 = (tokAt (d, l)).1 := congrArg (fun x => x.1) h
  rcases k with k | k <;> rcases l with l | l
  · exact congrArg (fun d : Dev nD => (d, (Sum.inl () : Unit ⊕ Cel))) (congrArg (fun g : GSem nD τ sig => g.1.1) hc)
  · exact absurd hb (by simp [tokAt])
  · exact absurd hb (by simp [tokAt])
  · have e : ((c, k) : Dev nD × Cel) = (d, l) := celAt_inj hc
    rw [(Prod.mk.inj e).1, (Prod.mk.inj e).2]

/-- All the duties' tokens. -/
def allToks : Finset (GSem nD τ sig × ℕ × Bool) := Finset.univ.map ⟨tokAt, tokAt_inj⟩

/-- What the launch deals, device by device: positions, then the tokens of the duties paid. -/
def dealt (c : Dev nD) : sProp 𝕄 :=
  iprop((bigSep Finset.univ fun k : Cel => atPos ER (celAt (c, k)) 0 ∅ 0)
    ∗ (dutyTok ER (barCell (flipX c)) 0 false ∗ dutyTok ER (barCell (flipY c)) 0 true ∗ dutyTok ER (zCell (flipZ c)) 0 false)
    ∗ (bigSep Finset.univ fun t : Fin 16 => dutyTok ER (recvCell t (peer t c)) 0 false) ∗ (bigSep Finset.univ fun t : Fin 16 => dutyTok ER (sendCell t c) 0 false))

/-- The cells, device by device. -/
theorem all_cells (Φ : GSem nD τ sig → sProp 𝕄) : bigSep allCells Φ = bigSep Finset.univ fun c : Dev nD => bigSep Finset.univ fun k : Cel => Φ (celAt (c, k)) := by
  unfold allCells
  rw [BI.bigSep_map, bigSep_univ_prod]
  rfl

/-- Five conjuncts in another order. -/
theorem regroup (P P' P'' Q Q' : sProp 𝕄) : iprop(P ∗ P' ∗ P'' ∗ Q ∗ Q') = iprop((P' ∗ P ∗ P'') ∗ Q ∗ Q') := by
  rw [sep_shift, sep_shift, ← sep_shift P' P, sep_swap P' P, sep_shift]

/-- A device and a copy, matched with the device it goes to and the copy. -/
def along : Dev nD × Fin 16 ≃ Dev nD × Fin 16 where
  toFun p := (peer p.2 p.1, p.2)
  invFun p := (peer p.2 p.1, p.2)
  left_inv p := Prod.ext (peer_peer p.2 p.1) rfl
  right_inv p := Prod.ext (peer_peer p.2 p.1) rfl

/-- The tokens, by the device that pays: each goes along its handshake or its copy. -/
theorem all_toks : (bigSep allToks fun x => (dutyTok ER x.1 x.2.1 x.2.2 : sProp 𝕄)) = bigSep Finset.univ fun c : Dev nD =>
    iprop((dutyTok ER (barCell (flipX c)) 0 false ∗ dutyTok ER (barCell (flipY c)) 0 true ∗ dutyTok ER (zCell (flipZ c)) 0 false)
      ∗ (bigSep Finset.univ fun t : Fin 16 => dutyTok ER (recvCell t (peer t c)) 0 false) ∗ (bigSep Finset.univ fun t : Fin 16 => dutyTok ER (sendCell t c) 0 false)) := by
  have h (c : Dev nD) : (bigSep Finset.univ fun k => (dutyTok ER (tokAt (c, k)).1 (tokAt (c, k)).2.1 (tokAt (c, k)).2.2 : sProp 𝕄))
      = iprop(dutyTok ER (barCell c) 0 true ∗ dutyTok ER (barCell c) 0 false ∗ dutyTok ER (zCell c) 0 false
        ∗ (bigSep Finset.univ fun t : Fin 16 => dutyTok ER (recvCell t c) 0 false) ∗ (bigSep Finset.univ fun t : Fin 16 => dutyTok ER (sendCell t c) 0 false)) := by
    rw [bigSep_univ_sum, Finset.univ_unique, bigSep_singleton, each_cell, each_copies, each_copies]
    rfl
  have hr : (bigSep Finset.univ fun c : Dev nD => bigSep Finset.univ fun t : Fin 16 => (dutyTok ER (recvCell t c) 0 false : sProp 𝕄))
      = bigSep Finset.univ fun c : Dev nD => bigSep Finset.univ fun t : Fin 16 => (dutyTok ER (recvCell t (peer t c)) 0 false : sProp 𝕄) := by
    rw [← bigSep_univ_prod (fun p : Dev nD × Fin 16 => (dutyTok ER (recvCell p.2 p.1) 0 false : sProp 𝕄)),
      ← bigSep_univ_prod (fun p : Dev nD × Fin 16 => (dutyTok ER (recvCell p.2 (peer p.2 p.1)) 0 false : sProp 𝕄))]
    exact bigSep_univ_equiv along fun p : Dev nD × Fin 16 => (dutyTok ER (recvCell p.2 p.1) 0 false : sProp 𝕄)
  unfold allToks
  rw [BI.bigSep_map, bigSep_univ_prod]
  refine (bigSep_congr fun c _ => h c).trans ?_
  rw [bigSep_sep', bigSep_sep', bigSep_sep', bigSep_sep', bigSep_sep', bigSep_sep', bigSep_sep', bigSep_sep', hr,
    bigSep_univ_equiv (peerEquiv 6) fun c : Dev nD => (dutyTok ER (barCell c) 0 false : sProp 𝕄),
    bigSep_univ_equiv (peerEquiv 10) fun c : Dev nD => (dutyTok ER (barCell c) 0 true : sProp 𝕄),
    bigSep_univ_equiv (peerEquiv 0) fun c : Dev nD => (dutyTok ER (zCell c) 0 false : sProp 𝕄)]
  exact regroup _ _ _ _ _

/-! ## From the counters at zero to the protocol -/

variable (A : Dev nD → Blk F)

/-- The invariants of all cells, and that the first round of each is reached. -/
def record (κ : GSem nD τ sig → ℕ) : sProp 𝕄 := iprop((bigSep allCells fun g => cellInv ER (RD A) (κ g) g) ∗ (bigSep allCells fun g => reached ER g 0))
instance (κ : GSem nD τ sig → ℕ) : BI.Persistent (record A κ) := by unfold record; infer_instance

/-- What a device has of the protocol. -/
def party (c : Dev nD) : sProp 𝕄 := iprop(∃ κ, record A κ ∗ dealt c)

/-- What the launch makes for the protocol, held by device 0 until the counters are at hand. -/
def seed (c : Dev nD) : sProp 𝕄 := if c = 0 then BI.own (ER (launchOf allCells ∅ allToks)) else iprop(emp)

/-- What is dealt at launch is every device's part. -/
theorem seed_all : (BI.own (ER (launchOf allCells ∅ allToks)) : sProp 𝕄) = bigSep Finset.univ fun c : Dev nD => seed c := by
  rw [bigSep_univ_at _ (0 : Dev nD), (bigSep_congr fun c hc => if_neg (Finset.ne_of_mem_erase hc) : bigSep (Finset.univ.erase (0 : Dev nD)) seed = bigSep (Finset.univ.erase (0 : Dev nD)) fun _ => (BI.emp : sProp 𝕄)),
    BI.bigSep_emp_const]
  unfold seed
  rw [if_pos rfl]
  exact (equiv_iff.mp BI.sep_emp).symm

/-- Every device's semaphores are the protocol's. -/
theorem sems_all (c : Dev nD) : iprop(Pipeline.ownSems0 (Ix := Unit) (Name := ℕ) (U := UU) (Lvl := ℕ) (Val := Elt F) (τ := τ) osem c ∗ unscopedSems0 c)
    = (bigSep Finset.univ fun k : Cel => (semVal (celAt (c, k)) 0 : sProp 𝕄)) := by
  have hb : (unscopedSems0 c : sProp 𝕄) = semVal (barCell c) 0 := by
    unfold unscopedSems0; rw [bigSep_eq_bigSepL_of_eq [SemLoc.reg barrier0] (by decide) (by decide)]; rfl
  rw [hb, sep_swap, bigSep_univ_sum, Finset.univ_unique, bigSep_singleton]
  rfl

/-- One persistent fact with each of many. -/
theorem with_each {I : Type} [Fintype I] [DecidableEq I] {P : sProp 𝕄} [BI.Persistent P] {Φ Ψ : I → sProp 𝕄} (h : ∀ i, iprop(P ∗ Φ i) ⊢ Ψ i) :
    iprop(P ∗ bigSep Finset.univ Φ) ⊢ bigSep Finset.univ Ψ := by
  refine BI.Entails.trans ?_ (bigSep_mono fun i _ => h i)
  refine BI.Entails.trans ?_ (Entails.of_eq (bigSep_sep' _ _ _).symm)
  show _ ⊢ iprop((bigSep Finset.univ fun _ : I => P) ∗ (bigSep Finset.univ fun i => Φ i))
  iintro ⟨#H, Hl⟩
  isplitr
  · iapply (BI.bigSep_of_persistent (Finset.univ : Finset I) P); iexact H
  · iexact Hl

/-- The protocol is set up on all devices at once. -/
theorem set_up : (bigSep Finset.univ fun c => iprop(Pipeline.ownSems0 (Ix := Unit) (Name := ℕ) (U := UU) (Lvl := ℕ) (Val := Elt F) (τ := τ) osem c ∗ unscopedSems0 c ∗ seed c) : sProp 𝕄)
    ⊢ |={Set.univ}=> bigSep Finset.univ (party A) := by
  rw [bigSep_congr fun c _ => (sep_shift _ _ (seed c)).symm, bigSep_sep', bigSep_congr fun c _ => sems_all c, ← seed_all, ← all_cells (fun g => (semVal g 0 : sProp 𝕄))]
  iintro H
  imod (fund_launch ER (RD A) (S := allCells) (Sd := ∅) (Finset.disjoint_empty_right _) (fun _ h => absurd h (Finset.notMem_empty _)) allToks) $$ H with ⟨%κ, -, HI, HR, HA, -, HT⟩
  imodintro
  ihave HI := (Entails.of_eq (congrArg (fun S => bigSep S fun g => (cellInv ER (RD A) (κ g) g : sProp 𝕄)) (Finset.union_empty allCells))) $$ HI
  ihave HA := (Entails.of_eq (all_cells (fun g => (atPos ER g 0 ∅ 0 : sProp 𝕄)))) $$ HA
  ihave HT := (Entails.of_eq all_toks) $$ HT
  iapply (with_each (P := record A κ) (Φ := dealt) fun c => show iprop(record A κ ∗ dealt c) ⊢ party A c from by
    unfold party; iintro H; iexists κ; iexact H)
  isplitl [HI HR]
  · unfold record
    isplitl [HI]; · iexact HI
    iexact HR
  · unfold dealt
    iapply (Entails.of_eq (bigSep_sep' _ _ _).symm)
    isplitl [HA]; · iexact HA
    iexact HT

/-! ## What the others owe a device -/

/-- What a device is owed for the copies to it. -/
theorem credit_owed (c : Dev nD) (l : List (Fin 16)) : (Pipeline.launchCred (fun d => owed d l) c : sProp 𝕄) ⊢ each l fun t => cred (tallyAt (recvCell t c) () N) := by
  induction l with
  | nil => exact Entails.of_eq (Pipeline.launchCred_zero c)
  | cons t l ih =>
    show (Pipeline.launchCred (fun d => owed d l + tallyAt (recvCell t (peer t d)) () N) c : sProp 𝕄) ⊢ iprop(cred (tallyAt (recvCell t c) () N) ∗ each l fun t => cred (tallyAt (recvCell t c) () N))
    rw [Pipeline.launchCred_add, sep_swap]
    exact Idealize.SL.BI.sep_mono (Pipeline.launchCred_tallyAt (.dma (rSem t)) (peer t) (peer t) (peer_peer t) (peer_peer t) () N c) ih

/-- The units a device will find: two at its barrier, one at the z handshake, every landing's. -/
theorem credits (c : Dev nD) : (Pipeline.launchCred O₀ c : sProp 𝕄)
    ⊢ iprop(cred (tallyAt (barCell c) () 2) ∗ cred (tallyAt (zCell c) () 1) ∗ each order fun t => cred (tallyAt (recvCell t c) () N)) := by
  have h : (Pipeline.launchCred O₀ c : sProp 𝕄) = iprop(((Pipeline.launchCred (fun d => owed d order) c ∗ Pipeline.launchCred (fun d => tallyAt (zCell (flipZ d)) () 1) c)
      ∗ Pipeline.launchCred (fun d => tallyAt (barCell (flipY d)) () 1) c) ∗ Pipeline.launchCred (fun d => tallyAt (barCell (flipX d)) () 1) c) := by
    rw [← Pipeline.launchCred_add, ← Pipeline.launchCred_add, ← Pipeline.launchCred_add]; rfl
  rw [h, ← tallyAt_add (barCell c) () 1 1]
  iintro ⟨⟨⟨H, Hz⟩, Hy⟩, Hx⟩
  isplitl [Hx Hy]
  · iapply (cred_add _ _).2
    isplitl [Hx]
    · iapply (Pipeline.launchCred_tallyAt (.reg barrier0) flipX (peer 6) (peer_peer 6) (peer_peer 6) () 1 c); iexact Hx
    · iapply (Pipeline.launchCred_tallyAt (.reg barrier0) flipY (peer 10) (peer_peer 10) (peer_peer 10) () 1 c); iexact Hy
  isplitl [Hz]
  · iapply (Pipeline.launchCred_tallyAt (.reg zSem) flipZ (peer 0) (peer_peer 0) (peer_peer 0) () 1 c); iexact Hz
  · iapply (credit_owed c order); iexact H

/-! ## The levels of the staging -/

/-- Everything owed at launch is at a level above 0. -/
theorem O₀_pos (c : Dev nD) (g : GSem nD τ sig) (u : Unit) (h : 0 < O₀ c g u) : u ∈ L g ∧ 0 < lv g u := by
  have hr (t : Fin 16) : 0 < rlev t := by revert t; decide
  unfold O₀ at h
  rw [Pi.add_apply, Finsupp.add_apply, Pi.add_apply, Finsupp.add_apply, Pi.add_apply, Finsupp.add_apply, tallyAt_apply, tallyAt_apply, tallyAt_apply] at h
  by_cases hx : g = barCell (flipX c)
  · subst hx; exact ⟨by rw [L_tc]; exact Finset.mem_singleton_self _, Nat.one_pos⟩
  by_cases hy : g = barCell (flipY c)
  · subst hy; exact ⟨by rw [L_tc]; exact Finset.mem_singleton_self _, Nat.one_pos⟩
  by_cases hz : g = zCell (flipZ c)
  · subst hz; exact ⟨by rw [L_tc]; exact Finset.mem_singleton_self _, Nat.one_pos⟩
  rw [if_neg (fun e => hz e.1 : ¬(g = zCell (flipZ c) ∧ u = ())), if_neg (fun e => hy e.1 : ¬(g = barCell (flipY c) ∧ u = ())), if_neg (fun e => hx e.1 : ¬(g = barCell (flipX c) ∧ u = ()))] at h
  obtain ⟨t, _, rfl⟩ := owed_pos c order g u h
  exact ⟨by rw [L_tc]; exact Finset.mem_singleton_self _, by rw [lv_recv]; exact hr t⟩

/-- The staging's own waits come below everything. -/
theorem wait_stage (c : Dev nD) (q : DmaSem sig) (hq : q.val < 4) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => (O₀_pos c g u hg).1)
      (fun p hp => by
        rw [Finset.mem_singleton.mp hp]
        show (if 4 ≤ q.val ∧ q.val < 20 then rlev (copyOf q) else 0) ≤ 0
        rw [if_neg (fun h => by omega)])
      (fun g u hg => (O₀_pos c g u hg).2)
  · rw [MayWait_zero]; iintro -; iempintro

end Cert.Bidir
-- ==== Proof.Launch.lean ====
/-
  The launch: every device runs the body once, between what it is dealt and what it leaves, so @main ends with the
  result's array right on every device, the arguments as they were and every semaphore at zero.
-/
module

public import proofs.«01_k».proof.Proof.Ghost

@[expose] public section

noncomputable section

namespace Cert.Bidir

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig Unit (Elt F) ℕ UU ℕ

variable (m : (l : Loc nD τ sig) → Buf (Elt F) l) (ρ : Dev nD → PrngReg)

/-- The arguments, device by device. -/
abbrev argA : Dev nD → Blk F := fun c => m ((c : Thread nD τ).loc main_arg0)
abbrev argR : Dev nD → Blk F := fun c => m ((c : Thread nD τ).loc main_arg1)
abbrev argG : Dev nD → Gam F := fun c => m ((c : Thread nD τ).loc main_arg2)

/-- Before any operation: no semaphore holds anything. -/
abbrev s₀ : MemSt nD τ sig (Elt F) := ⟨m, fun _ => 0, ρ⟩

/-- What a device is dealt at launch. -/
def start (c : Dev nD) : sProp 𝕄 := iprop(∃ κ, Ctx (argA m) κ ∗ mine c)

/-- What a device has before the body, beside the buffers. -/
def Φ₀ (c : Dev nD) : sProp 𝕄 :=
  iprop(start m c ∗ (∃ f, ((c : Thread nD τ).loc cc0_scratch0) ↦{fullShare} f) ∗ (∃ f, ((c : Thread nD τ).loc cc0_scratch1) ↦{fullShare} f))
/-- And after it. -/
def Φ₁ (c : Dev nD) : sProp 𝕄 :=
  iprop((bigSep Finset.univ fun k : Cel => (semVal (celAt (c, k)) 0 : sProp 𝕄))
    ∗ (((c : Thread nD τ).loc cc0_scratch0) ↦{fullShare} oth (argA m) c) ∗ (((c : Thread nD τ).loc cc0_scratch1) ↦{fullShare} sndB (argA m) c))

/-- The call on a device: what it reads, what it writes, what it has before and after. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => argA m c
    | ⟨1, _⟩ => argR m c
    | ⟨2, _⟩ => argG m c
    | ⟨3, _⟩ => outB (argA m) (argR m) (argG m) c
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## The body between the ends -/

/-- What follows a run's end, after the run. -/
theorem wp_after (c : Dev nD) (p : Pg F) {Q Q' : PUnit.{1} → sProp 𝕄} (h : ∀ a, Q a ⊢ |={Set.univ}=> Q' a) : WP c p Q ⊢ WP c p Q' :=
  (wp_mono _ _ _ h).trans (wp_fupd _ _ _ _ _)

/-- What a device has when its body starts, and when it is over. -/
def entry (A R : Dev nD → Blk F) (G : Dev nD → Gam F) (c : Dev nD) (κ : GSem nD τ sig → ℕ) : sProp 𝕄 :=
  iprop(Ctx A κ ∗ mine c ∗ (∃ f, ((c : Thread nD τ).loc cc0_scratch0) ↦{fullShare} f) ∗ (∃ f, ((c : Thread nD τ).loc cc0_scratch1) ↦{fullShare} f)
    ∗ (∃ f, ((c : Thread nD τ).loc cc0_stg3_0) ↦{fullShare} f) ∗ ins A R G c ∗ (∃ W, owes (c : Thread nD τ) (O₀ c) W))
/-- What the body leaves. -/
def finish (A R : Dev nD → Blk F) (G : Dev nD → Gam F) (c : Dev nD) : sProp 𝕄 :=
  iprop((bigSep Finset.univ fun k : Cel => (semVal (celAt (c, k)) 0 : sProp 𝕄))
    ∗ ((((c : Thread nD τ).loc cc0_scratch0) ↦{fullShare} oth A c) ∗ (((c : Thread nD τ).loc cc0_scratch1) ↦{fullShare} sndB A c))
    ∗ (((c : Thread nD τ).loc cc0_stg3_0) ↦{fullShare} outB A R G c) ∗ ins A R G c ∗ (∃ W, owes (c : Thread nD τ) 0 W))

/-- The body, from what a device is dealt to what it leaves. -/
theorem body_whole (A R : Dev nD → Blk F) (G : Dev nD → Gam F) (c : Dev nD) : iprop(∃ κ, entry A R G c κ) ⊢ WP c bodyK (fun _ => finish A R G c) :=
  Laws.exists_elim fun κ => (enter A R G c κ).trans ((body_run A R G c κ).trans (wp_after c bodyK fun _ => leave A R G c κ))

/-- A whole staging buffer held in full is all its elements. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- A window's block is its whole array, in place. -/
theorem emb_0 (y : S1024x1024.Idx) : (win0_0.blk t0_0).view.emb y = y := funext fun a => Fin.ext (Pipeline.Window.rect_emb_val_of_index_zero win0_0 t0_0 a rfl y)
theorem emb_1 (y : S1024x1024.Idx) : (win0_1.blk t0_0).view.emb y = y := funext fun a => Fin.ext (Pipeline.Window.rect_emb_val_of_index_zero win0_1 t0_0 a rfl y)
theorem emb_2 (y : S1x1024.Idx) : (win0_2.blk t0_0).view.emb y = y := funext fun a => Fin.ext (Pipeline.Window.rect_emb_val_of_index_zero win0_2 t0_0 a rfl y)
theorem emb_3 (y : S1024x1024.Idx) : (win0_3.blk t0_0).view.emb y = y := funext fun a => Fin.ext (Pipeline.Window.rect_emb_val_of_index_zero win0_3 t0_0 a rfl y)

/-- So what a staged input holds is its array. -/
theorem before_0 (c : Dev nD) (d) : (dats m ρ 0 c).before (0 : Fin 4) t0_0 d = argA m c := by
  unfold Dat.before; rw [if_pos (fetch0_0 t0_0)]
  exact funext fun y => congrArg (argA m c) (emb_0 y)
theorem before_1 (c : Dev nD) (d) : (dats m ρ 0 c).before (1 : Fin 4) t0_0 d = argR m c := by
  unfold Dat.before; rw [if_pos (fetch0_1 t0_0)]
  exact funext fun y => congrArg (argR m c) (emb_1 y)
theorem before_2 (c : Dev nD) (d) : (dats m ρ 0 c).before (2 : Fin 4) t0_0 d = argG m c := by
  unfold Dat.before; rw [if_pos (fetch0_2 t0_0)]
  exact funext fun y => congrArg (argG m c) (emb_2 y)

/-- What the call gives the body. -/
def bodyPre (c : Dev nD) : sProp 𝕄 :=
  iprop(Φ₀ m c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))
/-- What the call wants back. -/
def bodyPost (c : Dev nD) : sProp 𝕄 :=
  iprop(Φ₁ m c ∗ (dats m ρ 0 c).owesAt () t0_0.succ
    ∗ stg c cc0_stg0_0 (argA m c) ∗ stg c cc0_stg1_0 (argR m c) ∗ stg c cc0_stg2_0 (argG m c) ∗ stg c cc0_stg3_0 (outB (argA m) (argR m) (argG m) c))

/-- What the call gives is what the body starts from. -/
theorem pre_entry (c : Dev nD) : bodyPre m ρ c ⊢ iprop(∃ κ, entry (argA m) (argR m) (argG m) c κ) := by
  unfold bodyPre Φ₀ start Dat.owesAt Pipeline.owesWithin
  rw [show (dats m ρ 0 c).owed t0_0.castSucc = O₀ c from rfl]
  iintro ⟨⟨⟨%κ, HC, Hm⟩, Hs0, Hs1⟩, ⟨%W, -, HW⟩, ⟨%d0, %g0, %e0, H0⟩, ⟨%d1, %g1, %e1, H1⟩, ⟨%d2, %g2, %e2, H2⟩, ⟨%d3, %g3, -, H3⟩⟩
  rw [before_0] at e0; rw [before_1] at e1; rw [before_2] at e2
  subst e0 e1 e2
  iexists κ
  unfold entry ins
  isplitl [HC]; · iexact HC
  isplitl [Hm]; · iexact Hm
  isplitl [Hs0]; · iexact Hs0
  isplitl [Hs1]; · iexact Hs1
  isplitl [H3]; · iexists g3; iexact H3
  isplitl [H0 H1 H2]
  · isplitl [H0]; · iexact H0
    isplitl [H1]; · iexact H1
    iexact H2
  · iexists W; iexact HW

/-- What the body leaves is what the call wants back. -/
theorem finish_post (c : Dev nD) : finish (argA m) (argR m) (argG m) c ⊢ bodyPost m ρ c := by
  unfold bodyPost finish ins Φ₁ Dat.owesAt Pipeline.owesWithin
  rw [show (dats m ρ 0 c).owed t0_0.succ = 0 from rfl]
  iintro ⟨Hv, ⟨Hs0, Hs1⟩, H3, ⟨H0, H1, H2⟩, ⟨%W, HW⟩⟩
  isplitl [Hv Hs0 Hs1]
  · isplitl [Hv]; · iexact Hv
    isplitl [Hs0]; · iexact Hs0
    iexact Hs1
  isplitl [HW]
  · iexists W
    isplitr; · ipureintro; exact fun _ _ => Or.inl trivial
    iexact HW
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  iexists _; isplitr; · (ipureintro; rfl)
  iexact H3

/-- The body, from what the pipeline gives it to what it gives back. -/
theorem body_ends (c : Dev nD) : bodyPre m ρ c ⊢ WP c bodyK fun _ => bodyPost m ρ c :=
  (pre_entry m ρ c).trans ((body_whole _ _ _ c).trans (wp_after c bodyK fun _ => (finish_post m ρ c).trans fupd_intro))

set_option maxRecDepth 65536 in
/-- The body's obligation in the pipeline. -/
theorem body_obligation (c : Dev nD) : BodyObligation (dats (F := F) m ρ 0 c) (defs₀ (F := F)) 𝒱₀ () Set.univ := fun t => by
  rw [fin_N0 t, bigSep_W0, bigSep_W0]
  simp only [owns_whole_eq]
  show bodyPre m ρ c ⊢ WP c bodyK fun _ => bodyPost m ρ c
  exact body_ends m ρ c

/-! ## The launch -/

/-- The call's own semaphores are the protocol's. -/
theorem ownSemFacts : Pipeline.OwnSemFacts cfg0.spec osem := by decide +kernel
/-- Every array is held in full. -/
theorem share_eq (c : Dev nD) (w : Fin cfg0.W) : (dats m ρ 0 c).share w = fullShare := by unfold Dat.share; split <;> rfl

/-- The tokens of the launch. -/
def u₀ : UU := (initOf (Pipeline.cells cfgs cellOf_inj) (Pipeline.launchToks cfgs cellOf_inj), launchOf allCells ∅ allToks)

/-- All the copies to be made, by what they need. -/
theorem todo_all (c : Dev nD) : (bigSep Finset.univ fun t => todo (F := F) c t)
    = iprop((bigSep Finset.univ fun t : Fin 16 => dutyTok ER (sendCell t c) 0 false) ∗ (bigSep Finset.univ fun t : Fin 16 => dutyTok ER (recvCell t (peer t c)) 0 false)
      ∗ each copies fun t => atPos ER (sendCell t c) 0 ∅ 0) := by
  unfold todo
  rw [each_copies, each_copies, each_copies, each_sep, each_sep]

/-- What is dealt, and the semaphores at zero, set the protocol up. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ party (argA m) c)
      ⊢ |={Set.univ}=> iprop(start m c ∗ emp) := by
  iintro ⟨-, Hl, Hc, -, Hp⟩
  ihave Hc := (credits c) $$ Hc
  icases Hc with ⟨Hb, Hz, Hr⟩
  unfold party record dealt
  icases Hp with ⟨%κ, ⟨HI, HR⟩, HA, Ht, Htr, Hts⟩
  ihave HA := (Entails.of_eq (each_cell fun k : Cel => (atPos ER (celAt (c, k)) 0 ∅ 0 : sProp 𝕄))) $$ HA
  icases HA with ⟨Hab, Haz, Har, Has⟩
  imodintro
  isplitl
  · unfold start mine
    iexists κ
    isplitl [HI HR Hl]
    · unfold Ctx
      isplitl [HI]; · iexact HI
      isplitl [HR]; · iexact HR
      iexact Hl
    isplitl [Hab Hb]
    · isplitl [Hab]; · iexact Hab
      iexact Hb
    isplitl [Haz Hz]
    · isplitl [Haz]; · iexact Haz
      iexact Hz
    isplitl [Ht]; · iexact Ht
    isplitl [Har Hr]
    · rw [each_copies, show (pend (F := F) c) = (fun t => iprop(atPos ER (recvCell t c) 0 ∅ 0 ∗ cred (tallyAt (recvCell t c) () N))) from rfl, each_sep,
        each_perm (by decide : copies.Perm order) fun t => (cred (tallyAt (recvCell t c) () N) : sProp 𝕄)]
      isplitl [Har]; · iexact Har
      iexact Hr
    · iapply (Entails.of_eq (todo_all c).symm)
      isplitl [Hts]; · iexact Hts
      isplitl [Htr]; · iexact Htr
      iexact Has
  · iempintro

/-- That, with the scratch buffers, is what a device has before the body. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, H0, H1⟩
  isplitl [Hs]; · iexact Hs
  isplitl [H0]; · iexact H0
  iexact H1

/-- After the body the scratch buffers and the semaphores at zero are given back. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m c from rfl, scopedRest0_eq]
  unfold Φ₁
  rw [← sems_all]
  iintro ⟨⟨Ho, Hu⟩, H0, H1⟩
  isplitl [Hu]; · iexact Hu
  isplitl [Ho]; · iexact Ho
  isplitl [H0]
  · iexists _; iexact H0
  · iexists _; iexact H1

/-- The call's own waits are allowed. -/
theorem waits (c : Dev nD) : (levAts L lv : sProp 𝕄) ⊢ Pipeline.cellsWaits cfgs (dats m ρ) () 0 c :=
  Pipeline.cellsWaits_intro cfgs (dats m ρ) () 0 c fun w s t =>
    wait_stage c _ (by fin_cases w <;> fin_cases s <;> decide) _ (by
      rcases t with ⟨_ | _, ht⟩
      · exact Or.inl rfl
      · exact Or.inr rfl)

/-- What an array holds at the end. -/
def finalA (c : Dev nD) (w : Fin cfg0.W) : Buf (Elt F) ((cfg0.win w).arr.view.loc (c : Thread nD τ)) := (dats m ρ 0 c).arrAt w cfg0.N

/-- At the end every array holds its final contents. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On the eight devices, for any float values and from any memory: @main ends, on every schedule, each array at `finalA` and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := seed) (G' := party (argA m)) (u₀ := u₀)
    (hu₀ := by
      unfold u₀
      iintro Hu
      ihave H := (ownU_pair _ _) $$ Hu
      icases H with ⟨HP, HX⟩
      ihave HX := (Entails.of_eq seed_all) $$ HX
      imodintro
      isplitl [HP] <;> iassumption)
    (hglob := set_up (argA m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## What the arrays hold at the end -/

/-- The final contents: the arguments as they were, and the result. -/
theorem final_0 (c : Dev nD) : finalA m ρ c (0 : Fin 4) = argA m c := (dats (F := F) m ρ 0 c).arrAt_in (0 : Fin 4) rfl _
theorem final_1 (c : Dev nD) : finalA m ρ c (1 : Fin 4) = argR m c := (dats (F := F) m ρ 0 c).arrAt_in (1 : Fin 4) rfl _
theorem final_2 (c : Dev nD) : finalA m ρ c (2 : Fin 4) = argG m c := (dats (F := F) m ρ 0 c).arrAt_in (2 : Fin 4) rfl _
theorem final_3 (c : Dev nD) : finalA m ρ c (3 : Fin 4) = outB (argA m) (argR m) (argG m) c := by
  refine funext fun y => ?_
  have h := (dats (F := F) m ρ 0 c).arrAt_emb_eq_flushed (3 : Fin 4) (fun t t' _ _ ne => absurd ((fin_N0 t).trans (fin_N0 t').symm) ne) t0_0 (flush0_3 t0_0) y
  have e : (win0_3.blk t0_0).view.emb y = y := emb_3 y
  exact (congrArg (finalA m ρ c (3 : Fin 4)) e.symm).trans h

end Cert.Bidir
-- ==== Proof.Norm.lean ====
/-
  The arithmetic at the extended reals: one element of a chunk as the kernel computes it, one element of the result as
  the reference computes it, both in terms of a row of sums.
-/
module

public import proofs.«01_k».proof.Proof.Chunks
public import proofs.«01_k».proof.Proof.Gen.ReferenceIdeal
public import Idealize.ShloMosaic.Lib.Pointwise

@[expose] public section

noncomputable section

namespace Cert.Bidir

open Idealize.ShloMosaic

/-- One normalized element: the sum `y l` at column `l`, over the root of the row's mean square and a small constant,
    times the scale `g` at that column. -/
def normed (y : Fin 1024 → EReal) (g : EReal) (l : Fin 1024) : EReal :=
  Ideal.div (y l) (Ideal.sqrt (Ideal.div (∑ k : Fin 1024, y k * y k) (Ideal.ofBits .f32 0x44800000#32)
    + Ideal.ofBits .f32 0x358637BD#32)) * g

/-- An element of a chunk: the normalized sum of the two partial rows and the residual's. -/
theorem cmp_at (p o r : Chk Ideal) (g : Gam Ideal) (a : Fin 64) (l : Fin 1024) :
    cmp p o r g (ix2 a l) = normed (fun k => p (ix2 a k) + o (ix2 a k) + r (ix2 a k)) (g (ix2 0 l)) l := by
  pointwise [cmp, Cert.KernelIdeal.Gen.k0_pay10, normed]

end Cert.Bidir

namespace Cert.Bidir.Ref

open Idealize.ShloMosaic
open Cert.ReferenceIdeal Cert.ReferenceIdeal.Gen

variable {F : FTy → Type} [FloatOps F]

/-- The reference's sums: both partial blocks and the residual. -/
def sums (p : Vec F S2048x1024 .bf16) (r : Vec F S1024x1024 .bf16) : FVec F S1024x1024 .f32 :=
  addf (Host.reduceAdd (extf .f32 (shapeCast S2x1024x1024 p shapeCasts_S2048x1024_S2x1024x1024) bitsLt_bf16_f32)
    (constant S_ .f32 0x00000000#32) reducesTo_S2x1024x1024_S1024x1024_d0 h_S_) (extf .f32 r bitsLt_bf16_f32)

/-- The reference's result, of its arguments. -/
def result (p : Vec F S2048x1024 .bf16) (r : Vec F S1024x1024 .bf16) (g : Vec F S1x1024 .bf16) : FVec F S1024x1024 .bf16 :=
  have ms : FVec F S1024x1 .f32 := Host.divf (broadcastInDim S1024x1 ![0] bcast_S1024_S1024x1_0
      (Host.reduceAdd (mulf (sums p r) (sums p r)) (constant S_ .f32 0x00000000#32) reducesTo_S1024x1024_S1024_d1 h_S_))
    (broadcastInDim S1024x1 ![] bcast_S_S1024x1 (constant S_ .f32 0x44800000#32))
  have root : FVec F S1024x1 .f32 :=
    Host.sqrt (addf ms (broadcastInDim S1024x1 ![] bcast_S_S1024x1 (constant S_ .f32 0x358637BD#32)))
  have scale : FVec F S1x1024 .f32 := broadcastInDim S1x1024 ![1] bcast_S1024_S1x1024_1
    (extf .f32 (shapeCast S1024 g shapeCasts_S1x1024_S1024) bitsLt_bf16_f32)
  truncf .bf16 (mulf (Host.divf (sums p r) (broadcastInDim S1024x1024 ![0, 1] bcast_S1024x1_S1024x1024_0_1 root))
    (broadcastInDim S1024x1024 ![0, 1] bcast_S1x1024_S1024x1024_0_1 scale)) bitsLt_bf16_f32

/-- A row of the two partial blocks, one above the other. -/
def row (z : Fin 2) (a : Fin 1024) : Fin 2048 := ⟨z.val * 1024 + a.val, by omega⟩

/-- The reference's sum at one element. -/
theorem sums_at (p : Vec Ideal S2048x1024 .bf16) (r : Vec Ideal S1024x1024 .bf16) (a l : Fin 1024) :
    sums p r (ix2 a l) = p (ix2 (row 0 a) l) + p (ix2 (row 1 a) l) + r (ix2 a l) := by
  pointwise [sums]
  rw [Fin.sum_univ_two]
  rfl

/-- The reference's result at one element. -/
theorem result_at (p : Vec Ideal S2048x1024 .bf16) (r : Vec Ideal S1024x1024 .bf16) (g : Vec Ideal S1x1024 .bf16)
    (a l : Fin 1024) :
    result p r g (ix2 a l)
      = normed (fun k => p (ix2 (row 0 a) k) + p (ix2 (row 1 a) k) + r (ix2 a k)) (g (ix2 0 l)) l := by
  have h : result p r g (ix2 a l) = normed (fun k => sums p r (ix2 a k)) (g (ix2 0 l)) l := by
    generalize hs : sums p r = s
    pointwise [result, hs, normed]
  rw [h]
  simp only [sums_at]

end Cert.Bidir.Ref

end
-- ==== Proof.Value.lean ====
/-
  The result block of every device, at the extended reals, is the reference's result: the two partial rows a device adds
  are the reference's two, in one order or the other.
-/
module

public import proofs.«01_k».proof.Proof.Norm
public import Idealize.ShloMosaic.Lib.Layout

@[expose] public section

noncomputable section

namespace Cert.Bidir

open Idealize.ShloMosaic
open Cert.KernelIdeal Cert.KernelIdeal.Gen

/-- The half of the partial sums that device `c` holds. -/
def zOf (c : Dev nD) : Fin 2 := ⟨c.val % 2, Nat.mod_lt _ (by decide)⟩

/-- A device's block of the partial sums, at one element. -/
theorem part_at (c : Dev nD) (v : Vec Ideal ⟨2, ![2048, 1024]⟩ .bf16) (a l : Fin 1024) :
    (Layout.blockN ⟨2, ![1024, 1024]⟩ ⟨2, ![2048, 1024]⟩ (Layout.meshBlock [2, 2, 2] ![[2], []] c) v : Blk Ideal) (ix2 a l)
      = v (ix2 (Ref.row (zOf c) a) l) := by
  rw [Layout.blockN_apply]
  congr 1
  funext b
  apply Fin.ext
  rw [Layout.TilesN.idx_val]
  match b with
  | ⟨0, _⟩ =>
    show Layout.meshLin [2, 2, 2] c.val [2] * 1024 + a.val = c.val % 2 * 1024 + a.val
    have h : ∀ c : Dev nD, Layout.meshLin [2, 2, 2] c.val [2] = c.val % 2 := by decide
    rw [h]
  | ⟨1, _⟩ =>
    show 0 * 1024 + l.val = l.val
    omega

/-- The two halves a chunk's sums take, its own and its partner's, are the two halves. -/
theorem halves (c : Dev nD) (k : Fin 16) (f : Fin 2 → EReal) : f (zOf c) + f (zOf (origin c k)) = f 0 + f 1 := by
  have hp := origin_z_parity c k
  rcases Nat.mod_two_eq_zero_or_one c.val with h | h
  · have e0 : zOf c = 0 := Fin.ext h
    have e1 : zOf (origin c k) = 1 := Fin.ext (by rw [h] at hp; exact hp)
    rw [e0, e1]
  · have e0 : zOf c = 1 := Fin.ext h
    have e1 : zOf (origin c k) = 0 := Fin.ext (by rw [h] at hp; exact hp)
    rw [e0, e1, add_comm]

/-- The result block of every device is the reference's result of the whole arguments. -/
theorem outB_eq (A R : Dev nD → Blk Ideal) (G : Dev nD → Gam Ideal) (p : Vec Ideal ⟨2, ![2048, 1024]⟩ .bf16)
    (r : Blk Ideal) (g : Gam Ideal)
    (hA : ∀ c, A c = Layout.blockN ⟨2, ![1024, 1024]⟩ ⟨2, ![2048, 1024]⟩ (Layout.meshBlock [2, 2, 2] ![[2], []] c) p)
    (hR : ∀ c, R c = r) (hG : ∀ c, G c = g) (c : Dev nD) : outB A R G c = Ref.result p r g := by
  funext i
  obtain ⟨a, l, rfl⟩ : ∃ a l : Fin 1024, i = ix2 a l := ⟨i 0, i 1, eq_ix2 i⟩
  rw [Ref.result_at]
  generalize hk : chunkOf (ix2 a l : S1024x1024.Idx) = k
  have hpos : posOf (ix2 a l : S1024x1024.Idx) = ix2 ⟨a.val % 64, Nat.mod_lt _ (by decide)⟩ l := by
    rw [eq_ix2 (posOf _)]; rfl
  have hemb : ∀ x : Fin 1024, (chunkR k).emb (ix2 ⟨a.val % 64, Nat.mod_lt _ (by decide)⟩ x) = ix2 a x := by
    intro x
    have e := emb_chunk_pos (ix2 a x : S1024x1024.Idx)
    have hk' : chunkOf (ix2 a x : S1024x1024.Idx) = k := hk
    have hp' : posOf (ix2 a x : S1024x1024.Idx) = ix2 ⟨a.val % 64, Nat.mod_lt _ (by decide)⟩ x := by
      rw [eq_ix2 (posOf _)]; rfl
    rwa [hk', hp'] at e
  show cmp (rd (A c) (chunkOf _)) (rd (oth A c) (chunkOf _)) (rd (R c) (chunkOf _)) (G c) (posOf _) = _
  rw [hk, hpos, cmp_at, hG c]
  congr 1
  funext x
  show A c ((chunkR k).emb (ix2 _ x)) + A (origin c (chunkOf ((chunkR k).emb (ix2 _ x)))) ((chunkR k).emb (ix2 _ x))
      + R c ((chunkR k).emb (ix2 _ x)) = _
  rw [emb_chunkOf, hemb, hA, hA, hR, part_at, part_at]
  exact congrArg (· + r (ix2 a x)) (halves c k fun z => p (ix2 (Ref.row z a) x))

end Cert.Bidir

end
-- ==== Proof.lean ====
/- The certificate's claims: the three frames, that the idealized kernel is the kernel's idealization, and that its
   result on every device is the reference's. The kernel's run is proved once, for any float values, in Proof/Launch.lean;
   the values are compared in Proof/Value.lean. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem Cert.Bidir

/-- The idealized kernel ends, on every schedule, its arguments as they were and its semaphores at zero. -/
theorem frame_kernelIdeal : Cert.quiescent_KernelIdeal := fun m ρ _ =>
  (θ_run Cert.KernelIdeal.defs _ _).mono (fun _ h => ⟨fun c => ⟨(h.1 c (0 : Fin 4)).trans (final_0 m ρ c),
      (h.1 c (1 : Fin 4)).trans (final_1 m ρ c), (h.1 c (2 : Fin 4)).trans (final_2 m ρ c)⟩, h.2⟩)
    (run_main (F := Ideal) m ρ)

/-- The kernel's table of bodies is the idealized kernel's: the two texts are one. -/
theorem bodies_eq : Cert.Kernel.defs₀ (F := Bits) = Cert.KernelIdeal.defs₀ (F := Bits) := by
  unfold Cert.Kernel.defs₀ Cert.KernelIdeal.defs₀
  congr 1
  funext l x
  match l with
  | 0 => rfl

/-- So are its definitions. -/
theorem defs_eq : Cert.Kernel.defs (F := Bits) = Cert.KernelIdeal.defs (F := Bits) := by
  unfold Cert.Kernel.defs Cert.KernelIdeal.defs
  rw [bodies_eq]
  rfl

/-- The same of the kernel, whose text is the idealized one's, at the bit patterns. -/
theorem frame_kernel : Cert.quiescent_Kernel := fun m ρ _ =>
  (congrArg (fun d => θ_run d (onTc (τ := Cert.Kernel.τ) (Cert.Kernel.main (F := Bits))) ⟨m, fun _ => 0, ρ⟩ _) defs_eq).mpr
    ((θ_run (Cert.KernelIdeal.defs (F := Bits)) _ _).mono (fun _ h => ⟨fun c => ⟨(h.1 c (0 : Fin 4)).trans (final_0 m ρ c),
      (h.1 c (1 : Fin 4)).trans (final_1 m ρ c), (h.1 c (2 : Fin 4)).trans (final_2 m ρ c)⟩, h.2⟩)
    (run_main (F := Bits) m ρ))

/-- The reference ends with its arguments as they were; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every device ends with the reference's whole result. -/
theorem value : Cert.algebraic_KernelIdeal_ReferenceIdeal := by
  intro m g m' g' _ hagree
  refine ⟨Ref.result (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2)), ?_, ?_⟩
  · refine (θ_run Cert.KernelIdeal.defs _ _).mono (fun _ h c => ⟨?_, (h.1 c (0 : Fin 4)).trans (final_0 m g c),
      (h.1 c (1 : Fin 4)).trans (final_1 m g c), (h.1 c (2 : Fin 4)).trans (final_2 m g c)⟩) (run_main (F := Ideal) m g)
    exact ((h.1 c (3 : Fin 4)).trans (final_3 m g c)).trans
      (outB_eq (argA m) (argR m) (argG m) _ _ _ (fun c => (hagree c).1) (fun c => (hagree c).2.1) (fun c => (hagree c).2.2) c)
  · exact (θ_run Cert.ReferenceIdeal.defs _ _).mono (fun _ h => h 0) (Cert.ReferenceIdeal.Value.run (F := Ideal) m' g')

/-- All the claims. -/
theorem claim : Cert.Claim := ⟨Cert.Kernel.Gen.facts, Cert.KernelIdeal.Gen.facts, Cert.ReferenceIdeal.Gen.facts,
  frame_kernel, frame_kernelIdeal, frame_reference, trivial, value⟩

end Cert.Proof

end
